-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![2048, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![2048, 2048]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 2048]⟩ ⟨2, ![512, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S512x2048 : Shape := ⟨2, ![512, 2048]⟩
abbrev S128x2048 : Shape := ⟨2, ![128, 2048]⟩
abbrev S4x2x64x1024 : Shape := ⟨4, ![4, 2, 64, 1024]⟩
abbrev S3x2 : Shape := ⟨2, ![3, 2]⟩
abbrev S_ : Shape := ⟨0, ![]⟩
abbrev S64x512 : Shape := ⟨2, ![64, 512]⟩
abbrev S64x2048 : Shape := ⟨2, ![64, 2048]⟩
abbrev S64x1024 : Shape := ⟨2, ![64, 1024]⟩
abbrev S1x1x64x1024 : Shape := ⟨4, ![1, 1, 64, 1024]⟩
abbrev S1x1 : Shape := ⟨2, ![1, 1]⟩
abbrev S128x512 : Shape := ⟨2, ![128, 512]⟩

abbrev nBuf : Space → Nat
  | .hbm => 3
  | .vmem => 7
  | .smem => 0
  | _ => 0

abbrev bufTy : (tb : Table) → Fin (tcTables nBuf tb) → BufTy
  | .hbm, ⟨0, _⟩ => ⟨S512x512, .f32⟩
  | .hbm, ⟨1, _⟩ => ⟨S512x2048, .f32⟩
  | .hbm, ⟨2, _⟩ => ⟨S128x2048, .f32⟩
  | .local _ .vmem, ⟨0, _⟩ => ⟨S512x512, .f32⟩
  | .local _ .vmem, ⟨1, _⟩ => ⟨S512x2048, .f32⟩
  | .local _ .vmem, ⟨2, _⟩ => ⟨S128x2048, .f32⟩
  | .local _ .vmem, ⟨3, _⟩ => ⟨S512x512, .f32⟩
  | .local _ .vmem, ⟨4, _⟩ => ⟨S512x2048, .f32⟩
  | .local _ .vmem, ⟨5, _⟩ => ⟨S4x2x64x1024, .f32⟩
  | .local _ .vmem, ⟨6, _⟩ => ⟨S4x2x64x1024, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 1 27 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_15 : BitVec 32 := 1#32
  let v27 : BitVec 32 := Scalar.muli v14 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_18 : BitVec 32 := 1#32
  let v29 : BitVec 32 := Scalar.muli v25 c1_i32_18
  let v30 : BitVec 32 := Scalar.addi c0_i32_19 v29
  v30.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_23 : BitVec 32 := 4#32
  let v37 : BitVec 32 := Scalar.addi v2 c4_i32_23
  let c1_i32_24 : BitVec 32 := 1#32
  let v38 : BitVec 32 := Scalar.subi v37 c1_i32_24
  let c4_i32_25 : BitVec 32 := 4#32
  let c0_i32_26 : BitVec 32 := 0#32
  let v39 : BitVec 1 := Scalar.cmpi .eq c4_i32_25 c0_i32_26
  let c1_i32_27 : BitVec 32 := 1#32
  let v40 : BitVec 32 := Scalar.select v39 c1_i32_27 c4_i32_25
  let v41 : BitVec 32 := Scalar.remsi v38 v40
  let c0_i32_29 : BitVec 32 := 0#32
  let v43 : BitVec 1 := Scalar.cmpi .slt v41 c0_i32_29
  let c0_i32_30 : BitVec 32 := 0#32
  let v44 : BitVec 1 := Scalar.cmpi .slt v40 c0_i32_30
  let v45 : BitVec 1 := Scalar.xori v43 v44
  let c0_i32_28 : BitVec 32 := 0#32
  let v42 : BitVec 1 := Scalar.cmpi .ne v41 c0_i32_28
  let v46 : BitVec 1 := Scalar.andi v45 v42
  let v47 : BitVec 32 := Scalar.addi v41 v40
  let v48 : BitVec 32 := Scalar.select v46 v47 v41
  let c128_i32 : BitVec 32 := 128#32
  let v60 : BitVec 32 := Scalar.muli v48 c128_i32
  let v61 : Index := Scalar.indexCast v60
  let c0_38 : Index := 0#32
  ![v61.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_23 : BitVec 32 := 4#32
  let v37 : BitVec 32 := Scalar.addi v2 c4_i32_23
  let c1_i32_24 : BitVec 32 := 1#32
  let v38 : BitVec 32 := Scalar.subi v37 c1_i32_24
  let c4_i32_25 : BitVec 32 := 4#32
  let c0_i32_26 : BitVec 32 := 0#32
  let v39 : BitVec 1 := Scalar.cmpi .eq c4_i32_25 c0_i32_26
  let c1_i32_27 : BitVec 32 := 1#32
  let v40 : BitVec 32 := Scalar.select v39 c1_i32_27 c4_i32_25
  let v41 : BitVec 32 := Scalar.remsi v38 v40
  let c0_i32_29 : BitVec 32 := 0#32
  let v43 : BitVec 1 := Scalar.cmpi .slt v41 c0_i32_29
  let c0_i32_30 : BitVec 32 := 0#32
  let v44 : BitVec 1 := Scalar.cmpi .slt v40 c0_i32_30
  let v45 : BitVec 1 := Scalar.xori v43 v44
  let c0_i32_28 : BitVec 32 := 0#32
  let v42 : BitVec 1 := Scalar.cmpi .ne v41 c0_i32_28
  let v46 : BitVec 1 := Scalar.andi v45 v42
  let v47 : BitVec 32 := Scalar.addi v41 v40
  let v48 : BitVec 32 := Scalar.select v46 v47 v41
  let c128_i32_41 : BitVec 32 := 128#32
  let v66 : BitVec 32 := Scalar.muli v48 c128_i32_41
  let v67 : Index := Scalar.indexCast v66
  let c0_42 : Index := 0#32
  ![v67.toNat, 0]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_31 : BitVec 32 := 1#32
  let v49 : BitVec 32 := Scalar.addi v2 c1_i32_31
  let c4_i32_32 : BitVec 32 := 4#32
  let c0_i32_33 : BitVec 32 := 0#32
  let v50 : BitVec 1 := Scalar.cmpi .eq c4_i32_32 c0_i32_33
  let c1_i32_34 : BitVec 32 := 1#32
  let v51 : BitVec 32 := Scalar.select v50 c1_i32_34 c4_i32_32
  let v52 : BitVec 32 := Scalar.remsi v49 v51
  let c0_i32_36 : BitVec 32 := 0#32
  let v54 : BitVec 1 := Scalar.cmpi .slt v52 c0_i32_36
  let c0_i32_37 : BitVec 32 := 0#32
  let v55 : BitVec 1 := Scalar.cmpi .slt v51 c0_i32_37
  let v56 : BitVec 1 := Scalar.xori v54 v55
  let c0_i32_35 : BitVec 32 := 0#32
  let v53 : BitVec 1 := Scalar.cmpi .ne v52 c0_i32_35
  let v57 : BitVec 1 := Scalar.andi v56 v53
  let v58 : BitVec 32 := Scalar.addi v52 v51
  let v59 : BitVec 32 := Scalar.select v57 v58 v52
  let c128_i32_43 : BitVec 32 := 128#32
  let v71 : BitVec 32 := Scalar.muli v59 c128_i32_43
  let c64_i32 : BitVec 32 := 64#32
  let v72 : BitVec 32 := Scalar.addi v71 c64_i32
  let v73 : Index := Scalar.indexCast v72
  let c0_44 : Index := 0#32
  ![v73.toNat, 0]
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_31 : BitVec 32 := 1#32
  let v49 : BitVec 32 := Scalar.addi v2 c1_i32_31
  let c4_i32_32 : BitVec 32 := 4#32
  let c0_i32_33 : BitVec 32 := 0#32
  let v50 : BitVec 1 := Scalar.cmpi .eq c4_i32_32 c0_i32_33
  let c1_i32_34 : BitVec 32 := 1#32
  let v51 : BitVec 32 := Scalar.select v50 c1_i32_34 c4_i32_32
  let v52 : BitVec 32 := Scalar.remsi v49 v51
  let c0_i32_36 : BitVec 32 := 0#32
  let v54 : BitVec 1 := Scalar.cmpi .slt v52 c0_i32_36
  let c0_i32_37 : BitVec 32 := 0#32
  let v55 : BitVec 1 := Scalar.cmpi .slt v51 c0_i32_37
  let v56 : BitVec 1 := Scalar.xori v54 v55
  let c0_i32_35 : BitVec 32 := 0#32
  let v53 : BitVec 1 := Scalar.cmpi .ne v52 c0_i32_35
  let v57 : BitVec 1 := Scalar.andi v56 v53
  let v58 : BitVec 32 := Scalar.addi v52 v51
  let v59 : BitVec 32 := Scalar.select v57 v58 v52
  let c128_i32_48 : BitVec 32 := 128#32
  let v78 : BitVec 32 := Scalar.muli v59 c128_i32_48
  let c64_i32_49 : BitVec 32 := 64#32
  let v79 : BitVec 32 := Scalar.addi v78 c64_i32_49
  let v80 : Index := Scalar.indexCast v79
  let c0_50 : Index := 0#32
  ![v80.toNat, 0]
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_23 : BitVec 32 := 4#32
  let v37 : BitVec 32 := Scalar.addi v2 c4_i32_23
  let c1_i32_24 : BitVec 32 := 1#32
  let v38 : BitVec 32 := Scalar.subi v37 c1_i32_24
  let c4_i32_25 : BitVec 32 := 4#32
  let c0_i32_26 : BitVec 32 := 0#32
  let v39 : BitVec 1 := Scalar.cmpi .eq c4_i32_25 c0_i32_26
  let c1_i32_27 : BitVec 32 := 1#32
  let v40 : BitVec 32 := Scalar.select v39 c1_i32_27 c4_i32_25
  let v41 : BitVec 32 := Scalar.remsi v38 v40
  let c0_i32_29 : BitVec 32 := 0#32
  let v43 : BitVec 1 := Scalar.cmpi .slt v41 c0_i32_29
  let c0_i32_30 : BitVec 32 := 0#32
  let v44 : BitVec 1 := Scalar.cmpi .slt v40 c0_i32_30
  let v45 : BitVec 1 := Scalar.xori v43 v44
  let c0_i32_28 : BitVec 32 := 0#32
  let v42 : BitVec 1 := Scalar.cmpi .ne v41 c0_i32_28
  let v46 : BitVec 1 := Scalar.andi v45 v42
  let v47 : BitVec 32 := Scalar.addi v41 v40
  let v48 : BitVec 32 := Scalar.select v46 v47 v41
  let c128_i32_51 : BitVec 32 := 128#32
  let v84 : BitVec 32 := Scalar.muli v48 c128_i32_51
  let v85 : Index := Scalar.indexCast v84
  let c0_52 : Index := 0#32
  ![v85.toNat, 0]
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_31 : BitVec 32 := 1#32
  let v49 : BitVec 32 := Scalar.addi v2 c1_i32_31
  let c4_i32_32 : BitVec 32 := 4#32
  let c0_i32_33 : BitVec 32 := 0#32
  let v50 : BitVec 1 := Scalar.cmpi .eq c4_i32_32 c0_i32_33
  let c1_i32_34 : BitVec 32 := 1#32
  let v51 : BitVec 32 := Scalar.select v50 c1_i32_34 c4_i32_32
  let v52 : BitVec 32 := Scalar.remsi v49 v51
  let c0_i32_36 : BitVec 32 := 0#32
  let v54 : BitVec 1 := Scalar.cmpi .slt v52 c0_i32_36
  let c0_i32_37 : BitVec 32 := 0#32
  let v55 : BitVec 1 := Scalar.cmpi .slt v51 c0_i32_37
  let v56 : BitVec 1 := Scalar.xori v54 v55
  let c0_i32_35 : BitVec 32 := 0#32
  let v53 : BitVec 1 := Scalar.cmpi .ne v52 c0_i32_35
  let v57 : BitVec 1 := Scalar.andi v56 v53
  let v58 : BitVec 32 := Scalar.addi v52 v51
  let v59 : BitVec 32 := Scalar.select v57 v58 v52
  let c128_i32_56 : BitVec 32 := 128#32
  let v90 : BitVec 32 := Scalar.muli v59 c128_i32_56
  let c64_i32_57 : BitVec 32 := 64#32
  let v91 : BitVec 32 := Scalar.addi v90 c64_i32_57
  let v92 : Index := Scalar.indexCast v91
  let c0_58 : Index := 0#32
  ![v92.toNat, 0]
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_23 : BitVec 32 := 4#32
  let v37 : BitVec 32 := Scalar.addi v2 c4_i32_23
  let c1_i32_24 : BitVec 32 := 1#32
  let v38 : BitVec 32 := Scalar.subi v37 c1_i32_24
  let c4_i32_25 : BitVec 32 := 4#32
  let c0_i32_26 : BitVec 32 := 0#32
  let v39 : BitVec 1 := Scalar.cmpi .eq c4_i32_25 c0_i32_26
  let c1_i32_27 : BitVec 32 := 1#32
  let v40 : BitVec 32 := Scalar.select v39 c1_i32_27 c4_i32_25
  let v41 : BitVec 32 := Scalar.remsi v38 v40
  let c0_i32_29 : BitVec 32 := 0#32
  let v43 : BitVec 1 := Scalar.cmpi .slt v41 c0_i32_29
  let c0_i32_30 : BitVec 32 := 0#32
  let v44 : BitVec 1 := Scalar.cmpi .slt v40 c0_i32_30
  let v45 : BitVec 1 := Scalar.xori v43 v44
  let c0_i32_28 : BitVec 32 := 0#32
  let v42 : BitVec 1 := Scalar.cmpi .ne v41 c0_i32_28
  let v46 : BitVec 1 := Scalar.andi v45 v42
  let v47 : BitVec 32 := Scalar.addi v41 v40
  let v48 : BitVec 32 := Scalar.select v46 v47 v41
  let c128_i32_63 : BitVec 32 := 128#32
  let v97 : BitVec 32 := Scalar.muli v48 c128_i32_63
  let v98 : Index := Scalar.indexCast v97
  let c1024 : Index := 1024#32
  ![v98.toNat, 1024]
def k0_off8 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_31 : BitVec 32 := 1#32
  let v49 : BitVec 32 := Scalar.addi v2 c1_i32_31
  let c4_i32_32 : BitVec 32 := 4#32
  let c0_i32_33 : BitVec 32 := 0#32
  let v50 : BitVec 1 := Scalar.cmpi .eq c4_i32_32 c0_i32_33
  let c1_i32_34 : BitVec 32 := 1#32
  let v51 : BitVec 32 := Scalar.select v50 c1_i32_34 c4_i32_32
  let v52 : BitVec 32 := Scalar.remsi v49 v51
  let c0_i32_36 : BitVec 32 := 0#32
  let v54 : BitVec 1 := Scalar.cmpi .slt v52 c0_i32_36
  let c0_i32_37 : BitVec 32 := 0#32
  let v55 : BitVec 1 := Scalar.cmpi .slt v51 c0_i32_37
  let v56 : BitVec 1 := Scalar.xori v54 v55
  let c0_i32_35 : BitVec 32 := 0#32
  let v53 : BitVec 1 := Scalar.cmpi .ne v52 c0_i32_35
  let v57 : BitVec 1 := Scalar.andi v56 v53
  let v58 : BitVec 32 := Scalar.addi v52 v51
  let v59 : BitVec 32 := Scalar.select v57 v58 v52
  let c128_i32_67 : BitVec 32 := 128#32
  let v103 : BitVec 32 := Scalar.muli v59 c128_i32_67
  let c64_i32_68 : BitVec 32 := 64#32
  let v104 : BitVec 32 := Scalar.addi v103 c64_i32_68
  let v105 : Index := Scalar.indexCast v104
  let c1024_69 : Index := 1024#32
  ![v105.toNat, 1024]
def k0_dev3 (d0 : Dev nD) : Nat :=
  let c0_i32_82 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_81 : BitVec 32 := 1#32
  let v110 : BitVec 32 := Scalar.muli v25 c1_i32_81
  let v111 : BitVec 32 := Scalar.addi c0_i32_82 v110
  v111.toNat
def k0_dev4 (d0 : Dev nD) : Nat :=
  let c0_i32_96 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_95 : BitVec 32 := 1#32
  let v120 : BitVec 32 := Scalar.muli v14 c1_i32_95
  let v121 : BitVec 32 := Scalar.addi c0_i32_96 v120
  v121.toNat
def k0_dev5 (d0 : Dev nD) : Nat :=
  let c0_i32_110 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_109 : BitVec 32 := 1#32
  let v130 : BitVec 32 := Scalar.muli v25 c1_i32_109
  let v131 : BitVec 32 := Scalar.addi c0_i32_110 v130
  v131.toNat
def k0_dev6 (d0 : Dev nD) : Nat :=
  let c0_i32_124 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_123 : BitVec 32 := 1#32
  let v140 : BitVec 32 := Scalar.muli v14 c1_i32_123
  let v141 : BitVec 32 := Scalar.addi c0_i32_124 v140
  v141.toNat
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_129 : BitVec 32 := 2#32
  let v150 : BitVec 32 := Scalar.addi v2 c2_i32_129
  let c4_i32_130 : BitVec 32 := 4#32
  let c0_i32_131 : BitVec 32 := 0#32
  let v151 : BitVec 1 := Scalar.cmpi .eq c4_i32_130 c0_i32_131
  let c1_i32_132 : BitVec 32 := 1#32
  let v152 : BitVec 32 := Scalar.select v151 c1_i32_132 c4_i32_130
  let v153 : BitVec 32 := Scalar.remsi v150 v152
  let c0_i32_134 : BitVec 32 := 0#32
  let v155 : BitVec 1 := Scalar.cmpi .slt v153 c0_i32_134
  let c0_i32_135 : BitVec 32 := 0#32
  let v156 : BitVec 1 := Scalar.cmpi .slt v152 c0_i32_135
  let v157 : BitVec 1 := Scalar.xori v155 v156
  let c0_i32_133 : BitVec 32 := 0#32
  let v154 : BitVec 1 := Scalar.cmpi .ne v153 c0_i32_133
  let v158 : BitVec 1 := Scalar.andi v157 v154
  let v159 : BitVec 32 := Scalar.addi v153 v152
  let v160 : BitVec 32 := Scalar.select v158 v159 v153
  let c128_i32_136 : BitVec 32 := 128#32
  let v161 : BitVec 32 := Scalar.muli v160 c128_i32_136
  let v162 : Index := Scalar.indexCast v161
  let c0_137 : Index := 0#32
  ![v162.toNat, 0]
def k0_off10 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_129 : BitVec 32 := 2#32
  let v150 : BitVec 32 := Scalar.addi v2 c2_i32_129
  let c4_i32_130 : BitVec 32 := 4#32
  let c0_i32_131 : BitVec 32 := 0#32
  let v151 : BitVec 1 := Scalar.cmpi .eq c4_i32_130 c0_i32_131
  let c1_i32_132 : BitVec 32 := 1#32
  let v152 : BitVec 32 := Scalar.select v151 c1_i32_132 c4_i32_130
  let v153 : BitVec 32 := Scalar.remsi v150 v152
  let c0_i32_134 : BitVec 32 := 0#32
  let v155 : BitVec 1 := Scalar.cmpi .slt v153 c0_i32_134
  let c0_i32_135 : BitVec 32 := 0#32
  let v156 : BitVec 1 := Scalar.cmpi .slt v152 c0_i32_135
  let v157 : BitVec 1 := Scalar.xori v155 v156
  let c0_i32_133 : BitVec 32 := 0#32
  let v154 : BitVec 1 := Scalar.cmpi .ne v153 c0_i32_133
  let v158 : BitVec 1 := Scalar.andi v157 v154
  let v159 : BitVec 32 := Scalar.addi v153 v152
  let v160 : BitVec 32 := Scalar.select v158 v159 v153
  let c128_i32_141 : BitVec 32 := 128#32
  let v167 : BitVec 32 := Scalar.muli v160 c128_i32_141
  let v168 : Index := Scalar.indexCast v167
  let c0_142 : Index := 0#32
  ![v168.toNat, 0]
def k0_off11 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_143 : BitVec 32 := 1#32
  let v172 : BitVec 32 := Scalar.addi v2 c1_i32_143
  let c4_i32_144 : BitVec 32 := 4#32
  let c0_i32_145 : BitVec 32 := 0#32
  let v173 : BitVec 1 := Scalar.cmpi .eq c4_i32_144 c0_i32_145
  let c1_i32_146 : BitVec 32 := 1#32
  let v174 : BitVec 32 := Scalar.select v173 c1_i32_146 c4_i32_144
  let v175 : BitVec 32 := Scalar.remsi v172 v174
  let c0_i32_148 : BitVec 32 := 0#32
  let v177 : BitVec 1 := Scalar.cmpi .slt v175 c0_i32_148
  let c0_i32_149 : BitVec 32 := 0#32
  let v178 : BitVec 1 := Scalar.cmpi .slt v174 c0_i32_149
  let v179 : BitVec 1 := Scalar.xori v177 v178
  let c0_i32_147 : BitVec 32 := 0#32
  let v176 : BitVec 1 := Scalar.cmpi .ne v175 c0_i32_147
  let v180 : BitVec 1 := Scalar.andi v179 v176
  let v181 : BitVec 32 := Scalar.addi v175 v174
  let v182 : BitVec 32 := Scalar.select v180 v181 v175
  let c128_i32_150 : BitVec 32 := 128#32
  let v183 : BitVec 32 := Scalar.muli v182 c128_i32_150
  let v184 : Index := Scalar.indexCast v183
  let c0_151 : Index := 0#32
  ![v184.toNat, 0]
def k0_off12 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_143 : BitVec 32 := 1#32
  let v172 : BitVec 32 := Scalar.addi v2 c1_i32_143
  let c4_i32_144 : BitVec 32 := 4#32
  let c0_i32_145 : BitVec 32 := 0#32
  let v173 : BitVec 1 := Scalar.cmpi .eq c4_i32_144 c0_i32_145
  let c1_i32_146 : BitVec 32 := 1#32
  let v174 : BitVec 32 := Scalar.select v173 c1_i32_146 c4_i32_144
  let v175 : BitVec 32 := Scalar.remsi v172 v174
  let c0_i32_148 : BitVec 32 := 0#32
  let v177 : BitVec 1 := Scalar.cmpi .slt v175 c0_i32_148
  let c0_i32_149 : BitVec 32 := 0#32
  let v178 : BitVec 1 := Scalar.cmpi .slt v174 c0_i32_149
  let v179 : BitVec 1 := Scalar.xori v177 v178
  let c0_i32_147 : BitVec 32 := 0#32
  let v176 : BitVec 1 := Scalar.cmpi .ne v175 c0_i32_147
  let v180 : BitVec 1 := Scalar.andi v179 v176
  let v181 : BitVec 32 := Scalar.addi v175 v174
  let v182 : BitVec 32 := Scalar.select v180 v181 v175
  let c128_i32_155 : BitVec 32 := 128#32
  let v189 : BitVec 32 := Scalar.muli v182 c128_i32_155
  let v190 : Index := Scalar.indexCast v189
  let c0_156 : Index := 0#32
  ![v190.toNat, 0]
def k0_off13 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_157 : BitVec 32 := 4#32
  let v194 : BitVec 32 := Scalar.addi v2 c4_i32_157
  let c1_i32_158 : BitVec 32 := 1#32
  let v195 : BitVec 32 := Scalar.subi v194 c1_i32_158
  let c4_i32_159 : BitVec 32 := 4#32
  let c0_i32_160 : BitVec 32 := 0#32
  let v196 : BitVec 1 := Scalar.cmpi .eq c4_i32_159 c0_i32_160
  let c1_i32_161 : BitVec 32 := 1#32
  let v197 : BitVec 32 := Scalar.select v196 c1_i32_161 c4_i32_159
  let v198 : BitVec 32 := Scalar.remsi v195 v197
  let c0_i32_163 : BitVec 32 := 0#32
  let v200 : BitVec 1 := Scalar.cmpi .slt v198 c0_i32_163
  let c0_i32_164 : BitVec 32 := 0#32
  let v201 : BitVec 1 := Scalar.cmpi .slt v197 c0_i32_164
  let v202 : BitVec 1 := Scalar.xori v200 v201
  let c0_i32_162 : BitVec 32 := 0#32
  let v199 : BitVec 1 := Scalar.cmpi .ne v198 c0_i32_162
  let v203 : BitVec 1 := Scalar.andi v202 v199
  let v204 : BitVec 32 := Scalar.addi v198 v197
  let v205 : BitVec 32 := Scalar.select v203 v204 v198
  let c128_i32_165 : BitVec 32 := 128#32
  let v206 : BitVec 32 := Scalar.muli v205 c128_i32_165
  let c64_i32_166 : BitVec 32 := 64#32
  let v207 : BitVec 32 := Scalar.addi v206 c64_i32_166
  let v208 : Index := Scalar.indexCast v207
  let c0_167 : Index := 0#32
  ![v208.toNat, 0]
def k0_off14 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_157 : BitVec 32 := 4#32
  let v194 : BitVec 32 := Scalar.addi v2 c4_i32_157
  let c1_i32_158 : BitVec 32 := 1#32
  let v195 : BitVec 32 := Scalar.subi v194 c1_i32_158
  let c4_i32_159 : BitVec 32 := 4#32
  let c0_i32_160 : BitVec 32 := 0#32
  let v196 : BitVec 1 := Scalar.cmpi .eq c4_i32_159 c0_i32_160
  let c1_i32_161 : BitVec 32 := 1#32
  let v197 : BitVec 32 := Scalar.select v196 c1_i32_161 c4_i32_159
  let v198 : BitVec 32 := Scalar.remsi v195 v197
  let c0_i32_163 : BitVec 32 := 0#32
  let v200 : BitVec 1 := Scalar.cmpi .slt v198 c0_i32_163
  let c0_i32_164 : BitVec 32 := 0#32
  let v201 : BitVec 1 := Scalar.cmpi .slt v197 c0_i32_164
  let v202 : BitVec 1 := Scalar.xori v200 v201
  let c0_i32_162 : BitVec 32 := 0#32
  let v199 : BitVec 1 := Scalar.cmpi .ne v198 c0_i32_162
  let v203 : BitVec 1 := Scalar.andi v202 v199
  let v204 : BitVec 32 := Scalar.addi v198 v197
  let v205 : BitVec 32 := Scalar.select v203 v204 v198
  let c128_i32_171 : BitVec 32 := 128#32
  let v213 : BitVec 32 := Scalar.muli v205 c128_i32_171
  let c64_i32_172 : BitVec 32 := 64#32
  let v214 : BitVec 32 := Scalar.addi v213 c64_i32_172
  let v215 : Index := Scalar.indexCast v214
  let c0_173 : Index := 0#32
  ![v215.toNat, 0]
def k0_off15 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_174 : BitVec 32 := 128#32
  let v219 : BitVec 32 := Scalar.muli v2 c128_i32_174
  let v220 : Index := Scalar.indexCast v219
  let c0_175 : Index := 0#32
  ![v220.toNat, 0]
def k0_off16 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_179 : BitVec 32 := 128#32
  let v225 : BitVec 32 := Scalar.muli v2 c128_i32_179
  let v226 : Index := Scalar.indexCast v225
  let c0_180 : Index := 0#32
  ![v226.toNat, 0]
def k0_off17 (d0 : Dev nD) (c0_i32_181 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v230 : BitVec 32 := Scalar.addi v2 c8_i32
  let v231 : BitVec 32 := Scalar.subi v230 c0_i32_181
  let c2_i32_182 : BitVec 32 := 2#32
  let v232 : BitVec 32 := Scalar.subi v231 c2_i32_182
  let c4_i32_183 : BitVec 32 := 4#32
  let c0_i32_184 : BitVec 32 := 0#32
  let v233 : BitVec 1 := Scalar.cmpi .eq c4_i32_183 c0_i32_184
  let c1_i32_185 : BitVec 32 := 1#32
  let v234 : BitVec 32 := Scalar.select v233 c1_i32_185 c4_i32_183
  let v235 : BitVec 32 := Scalar.remsi v232 v234
  let c0_i32_187 : BitVec 32 := 0#32
  let v237 : BitVec 1 := Scalar.cmpi .slt v235 c0_i32_187
  let c0_i32_188 : BitVec 32 := 0#32
  let v238 : BitVec 1 := Scalar.cmpi .slt v234 c0_i32_188
  let v239 : BitVec 1 := Scalar.xori v237 v238
  let c0_i32_186 : BitVec 32 := 0#32
  let v236 : BitVec 1 := Scalar.cmpi .ne v235 c0_i32_186
  let v240 : BitVec 1 := Scalar.andi v239 v236
  let v241 : BitVec 32 := Scalar.addi v235 v234
  let v242 : BitVec 32 := Scalar.select v240 v241 v235
  let c128_i32_211 : BitVec 32 := 128#32
  let v263 : BitVec 32 := Scalar.muli v242 c128_i32_211
  let v264 : Index := Scalar.indexCast v263
  let c0_212 : Index := 0#32
  ![v264.toNat, 0]
def k0_dev7 (d0 : Dev nD) : Nat :=
  let c0_i32_230 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_229 : BitVec 32 := 1#32
  let v272 : BitVec 32 := Scalar.muli v25 c1_i32_229
  let v273 : BitVec 32 := Scalar.addi c0_i32_230 v272
  v273.toNat
def k0_off18 (d0 : Dev nD) (c0_i32_189 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v243 : BitVec 32 := Scalar.addi v2 c0_i32_189
  let c2_i32_190 : BitVec 32 := 2#32
  let v244 : BitVec 32 := Scalar.addi v243 c2_i32_190
  let c4_i32_191 : BitVec 32 := 4#32
  let c0_i32_192 : BitVec 32 := 0#32
  let v245 : BitVec 1 := Scalar.cmpi .eq c4_i32_191 c0_i32_192
  let c1_i32_193 : BitVec 32 := 1#32
  let v246 : BitVec 32 := Scalar.select v245 c1_i32_193 c4_i32_191
  let v247 : BitVec 32 := Scalar.remsi v244 v246
  let c0_i32_195 : BitVec 32 := 0#32
  let v249 : BitVec 1 := Scalar.cmpi .slt v247 c0_i32_195
  let c0_i32_196 : BitVec 32 := 0#32
  let v250 : BitVec 1 := Scalar.cmpi .slt v246 c0_i32_196
  let v251 : BitVec 1 := Scalar.xori v249 v250
  let c0_i32_194 : BitVec 32 := 0#32
  let v248 : BitVec 1 := Scalar.cmpi .ne v247 c0_i32_194
  let v252 : BitVec 1 := Scalar.andi v251 v248
  let v253 : BitVec 32 := Scalar.addi v247 v246
  let v254 : BitVec 32 := Scalar.select v252 v253 v247
  let c128_i32_249 : BitVec 32 := 128#32
  let v290 : BitVec 32 := Scalar.muli v254 c128_i32_249
  let c64_i32_250 : BitVec 32 := 64#32
  let v291 : BitVec 32 := Scalar.addi v290 c64_i32_250
  let v292 : Index := Scalar.indexCast v291
  let c0_251 : Index := 0#32
  ![v292.toNat, 0]
def k0_dev8 (d0 : Dev nD) : Nat :=
  let c0_i32_269 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_268 : BitVec 32 := 1#32
  let v300 : BitVec 32 := Scalar.muli v14 c1_i32_268
  let v301 : BitVec 32 := Scalar.addi c0_i32_269 v300
  v301.toNat
def k0_off19 (d0 : Dev nD) (c0_i32_181 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v230 : BitVec 32 := Scalar.addi v2 c8_i32
  let v231 : BitVec 32 := Scalar.subi v230 c0_i32_181
  let c2_i32_182 : BitVec 32 := 2#32
  let v232 : BitVec 32 := Scalar.subi v231 c2_i32_182
  let c4_i32_183 : BitVec 32 := 4#32
  let c0_i32_184 : BitVec 32 := 0#32
  let v233 : BitVec 1 := Scalar.cmpi .eq c4_i32_183 c0_i32_184
  let c1_i32_185 : BitVec 32 := 1#32
  let v234 : BitVec 32 := Scalar.select v233 c1_i32_185 c4_i32_183
  let v235 : BitVec 32 := Scalar.remsi v232 v234
  let c0_i32_187 : BitVec 32 := 0#32
  let v237 : BitVec 1 := Scalar.cmpi .slt v235 c0_i32_187
  let c0_i32_188 : BitVec 32 := 0#32
  let v238 : BitVec 1 := Scalar.cmpi .slt v234 c0_i32_188
  let v239 : BitVec 1 := Scalar.xori v237 v238
  let c0_i32_186 : BitVec 32 := 0#32
  let v236 : BitVec 1 := Scalar.cmpi .ne v235 c0_i32_186
  let v240 : BitVec 1 := Scalar.andi v239 v236
  let v241 : BitVec 32 := Scalar.addi v235 v234
  let v242 : BitVec 32 := Scalar.select v240 v241 v235
  let c128_i32_288 : BitVec 32 := 128#32
  let v318 : BitVec 32 := Scalar.muli v242 c128_i32_288
  let v319 : Index := Scalar.indexCast v318
  let c1024_289 : Index := 1024#32
  ![v319.toNat, 1024]
def k0_dev9 (d0 : Dev nD) : Nat :=
  let c0_i32_307 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_306 : BitVec 32 := 1#32
  let v327 : BitVec 32 := Scalar.muli v25 c1_i32_306
  let v328 : BitVec 32 := Scalar.addi c0_i32_307 v327
  v328.toNat
def k0_off20 (d0 : Dev nD) (c0_i32_189 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v243 : BitVec 32 := Scalar.addi v2 c0_i32_189
  let c2_i32_190 : BitVec 32 := 2#32
  let v244 : BitVec 32 := Scalar.addi v243 c2_i32_190
  let c4_i32_191 : BitVec 32 := 4#32
  let c0_i32_192 : BitVec 32 := 0#32
  let v245 : BitVec 1 := Scalar.cmpi .eq c4_i32_191 c0_i32_192
  let c1_i32_193 : BitVec 32 := 1#32
  let v246 : BitVec 32 := Scalar.select v245 c1_i32_193 c4_i32_191
  let v247 : BitVec 32 := Scalar.remsi v244 v246
  let c0_i32_195 : BitVec 32 := 0#32
  let v249 : BitVec 1 := Scalar.cmpi .slt v247 c0_i32_195
  let c0_i32_196 : BitVec 32 := 0#32
  let v250 : BitVec 1 := Scalar.cmpi .slt v246 c0_i32_196
  let v251 : BitVec 1 := Scalar.xori v249 v250
  let c0_i32_194 : BitVec 32 := 0#32
  let v248 : BitVec 1 := Scalar.cmpi .ne v247 c0_i32_194
  let v252 : BitVec 1 := Scalar.andi v251 v248
  let v253 : BitVec 32 := Scalar.addi v247 v246
  let v254 : BitVec 32 := Scalar.select v252 v253 v247
  let c128_i32_326 : BitVec 32 := 128#32
  let v345 : BitVec 32 := Scalar.muli v254 c128_i32_326
  let c64_i32_327 : BitVec 32 := 64#32
  let v346 : BitVec 32 := Scalar.addi v345 c64_i32_327
  let v347 : Index := Scalar.indexCast v346
  let c1024_328 : Index := 1024#32
  ![v347.toNat, 1024]
def k0_dev10 (d0 : Dev nD) : Nat :=
  let c0_i32_346 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_345 : BitVec 32 := 1#32
  let v355 : BitVec 32 := Scalar.muli v14 c1_i32_345
  let v356 : BitVec 32 := Scalar.addi c0_i32_346 v355
  v356.toNat
def k0_dev11 (d0 : Dev nD) : Nat :=
  let c0_i32_401 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_400 : BitVec 32 := 1#32
  let v407 : BitVec 32 := Scalar.muli v25 c1_i32_400
  let v408 : BitVec 32 := Scalar.addi c0_i32_401 v407
  v408.toNat
def k0_dev12 (d0 : Dev nD) : Nat :=
  let c0_i32_440 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_439 : BitVec 32 := 1#32
  let v435 : BitVec 32 := Scalar.muli v14 c1_i32_439
  let v436 : BitVec 32 := Scalar.addi c0_i32_440 v435
  v436.toNat
def k0_dev13 (d0 : Dev nD) : Nat :=
  let c0_i32_478 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_477 : BitVec 32 := 1#32
  let v462 : BitVec 32 := Scalar.muli v25 c1_i32_477
  let v463 : BitVec 32 := Scalar.addi c0_i32_478 v462
  v463.toNat
def k0_dev14 (d0 : Dev nD) : Nat :=
  let c0_i32_517 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_516 : BitVec 32 := 1#32
  let v490 : BitVec 32 := Scalar.muli v14 c1_i32_516
  let v491 : BitVec 32 := Scalar.addi c0_i32_517 v490
  v491.toNat
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x512 : Shape := ⟨2, ![2048, 512]⟩
abbrev S2048x2048 : Shape := ⟨2, ![2048, 2048]⟩
abbrev S512x2048 : Shape := ⟨2, ![512, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x2048, .f32⟩
  | .hbm, ⟨2, _⟩ => ⟨S512x2048, .f32⟩
  | .hbm, ⟨3, _⟩ => ⟨S512x2048, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Ring.lean ====
/-
  The ring of four devices and the names of what moves on it.

  Twelve transfers leave every device. They are numbered in program order, `n = 4·s + 2·g + δ`: hop `s` (0, 1, 2), column
  segment `g` (0, 1: columns `1024·g …`) and stream `δ` (0: the upper 64 rows of a chunk, sent to the right neighbour;
  1: the lower 64 rows, sent to the left one). This file defines the neighbours, the buffers' slots, the semaphores of a
  transfer, and what every buffer holds: the local product, the partial sums a transfer carries, the kernel's result.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.VecWindow
public import Idealize.ShloMosaic.Lib.Pointwise.Index
public import Idealize.ShloMosaic.Lib.Tactic

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Neighbours -/

/-- The right neighbour. -/
def nxt (c : Dev nD) : Dev nD := c + 1
/-- The left neighbour. -/
def prv (c : Dev nD) : Dev nD := c + 3

theorem prv_nxt (c : Dev nD) : prv (nxt c) = c := by revert c; decide
theorem nxt_prv (c : Dev nD) : nxt (prv c) = c := by revert c; decide
theorem nxt_ne_prv (c : Dev nD) : nxt c ≠ prv c := by revert c; decide

/-- The ring turned by one step to the right. -/
def turn : Dev nD ≃ Dev nD := ⟨nxt, prv, prv_nxt, nxt_prv⟩

/-- The device a transfer of stream `δ` goes to. -/
def fwd (δ : Fin 2) (c : Dev nD) : Dev nD := if δ = 0 then nxt c else prv c
/-- The device a transfer of stream `δ` comes from. -/
def bwd (δ : Fin 2) (c : Dev nD) : Dev nD := if δ = 0 then prv c else nxt c

theorem bwd_fwd (δ : Fin 2) (c : Dev nD) : bwd δ (fwd δ c) = c := by revert δ c; decide
theorem fwd_bwd (δ : Fin 2) (c : Dev nD) : fwd δ (bwd δ c) = c := by revert δ c; decide

/-! ## The twelve transfers -/

/-- The stream of transfer `n`. -/
def str (n : Fin 12) : Fin 2 := ⟨n.val % 2, Nat.mod_lt _ (by decide)⟩
/-- The column segment of transfer `n`. -/
def seg (n : Fin 12) : Fin 2 := ⟨n.val / 2 % 2, Nat.mod_lt _ (by decide)⟩
/-- The hop of transfer `n`. -/
def hop (n : Fin 12) : Fin 3 := ⟨n.val / 4, by omega⟩
/-- The slot transfer `n` is sent out of: slot 3 on the first hop, then the slot the last hop landed in. -/
def out (n : Fin 12) : Fin 4 := ⟨(n.val / 4 + 3) % 4, Nat.mod_lt _ (by decide)⟩
/-- The slot transfer `n` lands in. -/
def inn (n : Fin 12) : Fin 4 := ⟨n.val / 4, by omega⟩

/-- The device transfer `n` of device `c` goes to, and the one that device `c`'s `n`-th arrival comes from. -/
abbrev tgt (n : Fin 12) (c : Dev nD) : Dev nD := fwd (str n) c
abbrev frm (n : Fin 12) (c : Dev nD) : Dev nD := bwd (str n) c

/-! ## Buffers, slots and semaphores -/

abbrev xM : Memref sig .tc .vmem S512x512 .f32 := Memref.whole cc0_stg0_0
abbrev yM : Memref sig .tc .vmem S512x2048 .f32 := Memref.whole cc0_stg1_0
abbrev oM : Memref sig .tc .vmem S128x2048 .f32 := Memref.whole cc0_stg2_0
abbrev tM : Memref sig .tc .vmem S512x512 .f32 := Memref.whole cc0_scratch0
abbrev aM : Memref sig .tc .vmem S512x2048 .f32 := Memref.whole cc0_scratch1

/-- The communication buffer of a stream. -/
abbrev comm (δ : Fin 2) : Memref sig .tc .vmem S4x2x64x1024 .f32 :=
  match δ with | 0 => Memref.whole cc0_scratch2 | 1 => Memref.whole cc0_scratch3

set_option backward.proofsInPublic true in
theorem slot_inb (k : Fin 4) (g : Fin 2) : ∀ a, (![k.val, g.val, 0, 0] : Fin 4 → ℕ) a + S1x1x64x1024.size a ≤ S4x2x64x1024.size a := by
  revert k g; decide

/-- Slot `(k, g)` of a communication buffer, as a 64 × 1024 block. -/
abbrev slot (M : Memref sig .tc .vmem S4x2x64x1024 .f32) (k : Fin 4) (g : Fin 2) : Memref sig .tc .vmem S64x1024 .f32 :=
  (M.slice (Rect.unit (s := S4x2x64x1024) ![k.val, g.val, 0, 0] S1x1x64x1024.size (slot_inb k g)) (fun _ => rfl)).squeeze S64x1024 squeezes_S1x1x64x1024_S64x1024

/-- Where transfer `n` is read from and where it lands. -/
abbrev srcM (n : Fin 12) : Memref sig .tc .vmem S64x1024 .f32 := slot (comm (str n)) (out n) (seg n)
abbrev dstM (n : Fin 12) : Memref sig .tc .vmem S64x1024 .f32 := slot (comm (str n)) (inn n) (seg n)

/-- The semaphore a transfer's sender waits on, and the one its receiver waits on. -/
def sndS (n : Fin 12) : DmaSem sig := (⟨3 + 12 * (n.val % 2) + n.val / 2, by omega⟩ : Fin 27)
def rcvS (n : Fin 12) : DmaSem sig := (⟨9 + 12 * (n.val % 2) + n.val / 2, by omega⟩ : Fin 27)

/-- The barrier semaphore. -/
abbrev barS : Sem sig := (SemArray.scalar (sig.barrier 0 rfl) : Sems sig S_).sem

abbrev barC (c : Dev nD) : GSem nD τ sig := ((c : Thread nD τ), .reg barS)
abbrev sndC (n : Fin 12) (c : Dev nD) : GSem nD τ sig := ((c : Thread nD τ), .dma (sndS n))
abbrev rcvC (n : Fin 12) (c : Dev nD) : GSem nD τ sig := ((c : Thread nD τ), .dma (rcvS n))

/-- The units one transfer moves. -/
abbrev N : ℕ := (dstM 0).view.dmaCredit
theorem N_pos : 0 < N := View.dmaCredit_pos _ (by decide)
theorem credit_eq (n : Fin 12) : (dstM n).view.dmaCredit = N := by fin_cases n <;> rfl
theorem credit_src (n : Fin 12) : (srcM n).view.dmaCredit = N := by fin_cases n <;> rfl

/-! ## Contents -/

variable (m : (ℓ : Loc nD τ sig) → Buf (Elt F) ℓ)

/-- Device `c`'s rows of `x` and of `dy`, as staged. -/
def xv (c : Dev nD) : Vec F S512x512 .f32 := (win0_0.blk (0 : Fin 1)).view.read (Elt F) (m ((c : Thread nD τ).loc main_arg0))
def yv (c : Dev nD) : Vec F S512x2048 .f32 := (win0_1.blk (0 : Fin 1)).view.read (Elt F) (m ((c : Thread nD τ).loc main_arg1))

/-- Device `c`'s rows of `x`, transposed. -/
def xt (c : Dev nD) : Vec F S512x512 .f32 := k0_pay1 (xv m c)

theorem rows64_inb (b : Fin 8) : ∀ a, (![64 * b.val, 0] : Fin 2 → ℕ) a + S64x512.size a ≤ S512x512.size a := by revert b; decide
theorem rows128_inb (k : Fin 4) : ∀ a, (![128 * k.val, 0] : Fin 2 → ℕ) a + S128x512.size a ≤ S512x512.size a := by revert k; decide
theorem acc64_inb (b : Fin 8) : ∀ a, (![64 * b.val, 0] : Fin 2 → ℕ) a + S64x2048.size a ≤ S512x2048.size a := by revert b; decide
theorem acc128_inb (k : Fin 4) : ∀ a, (![128 * k.val, 0] : Fin 2 → ℕ) a + S128x2048.size a ≤ S512x2048.size a := by revert k; decide
theorem half_inb (b : Fin 8) (g : Fin 2) : ∀ a, (![64 * b.val, 1024 * g.val] : Fin 2 → ℕ) a + S64x1024.size a ≤ S512x2048.size a := by revert b g; decide
theorem res_inb (δ g : Fin 2) : ∀ a, (![64 * δ.val, 1024 * g.val] : Fin 2 → ℕ) a + S64x1024.size a ≤ S128x2048.size a := by revert δ g; decide

/-- The product of 64 rows of the transposed `x` with `dy`, and that of 128 rows. -/
def prod64 (c : Dev nD) (b : Fin 8) : Vec F S64x2048 .f32 := k0_pay4 (VecWindow.window (xt m c) ![64 * b.val, 0] S64x512.size (rows64_inb b)) (yv m c)
def prod128 (c : Dev nD) (k : Fin 4) : Vec F S128x2048 .f32 := k0_pay9 (VecWindow.window (xt m c) ![128 * k.val, 0] S128x512.size (rows128_inb k)) (yv m c)

/-- The local product the accumulator of device `c` holds: chunks `c` and `c + 2` are computed 128 rows at a time, the two
    other chunks 64 rows at a time. -/
def accV (c : Dev nD) : Vec F S512x2048 .f32 := fun i =>
  if ((i 0).val / 128 + c.val) % 2 = 0 then
    prod128 m c ⟨(i 0).val / 128, by have : (i 0).val < 512 := (i 0).isLt; omega⟩ (ix2 ⟨(i 0).val % 128, Nat.mod_lt _ (by decide)⟩ (i 1))
  else
    prod64 m c ⟨(i 0).val / 64, by have : (i 0).val < 512 := (i 0).isLt; omega⟩ (ix2 ⟨(i 0).val % 64, Nat.mod_lt _ (by decide)⟩ (i 1))

/-- Rows `64·b …`, column segment `g` of the local product of device `c`. -/
def blk (c : Dev nD) (b : Fin 8) (g : Fin 2) : Vec F S64x1024 .f32 := VecWindow.window (accV m c) ![64 * b.val, 1024 * g.val] S64x1024.size (half_inb b g)

/-- The block of rows device `c` adds to stream `δ` before its hop `s` (at `s = 3`: the rows of its own result). -/
def row (δ : Fin 2) (s : ℕ) (c : Dev nD) : Fin 8 :=
  if δ = 0 then ⟨2 * ((c.val + (7 - s)) % 4), by omega⟩ else ⟨2 * ((c.val + s + 1) % 4) + 1, by omega⟩

/-- The partial sum of stream `δ`, segment `g`, on device `c` before hop `s`: what arrived on the hop before, plus the device's own block. -/
def part (δ g : Fin 2) : ℕ → Dev nD → Vec F S64x1024 .f32
  | 0, c => blk m c (row δ 0 c) g
  | s + 1, c => addf (part δ g s (bwd δ c)) (blk m c (row δ (s + 1) c) g)

/-- What transfer `n` of device `c` carries. -/
def sent (n : Fin 12) (c : Dev nD) : Vec F S64x1024 .f32 := part m (str n) (seg n) (hop n).val c
/-- What device `c`'s `n`-th arrival leaves in its slot. -/
def came (n : Fin 12) (c : Dev nD) : Vec F S64x1024 .f32 := sent m n (frm n c)

/-- The kernel's result on device `c`: the four blocks of the completed sums. -/
def resV (c : Dev nD) : Vec F S128x2048 .f32 := fun i =>
  part m ⟨(i 0).val / 64, by have : (i 0).val < 128 := (i 0).isLt; omega⟩ ⟨(i 1).val / 1024, by have : (i 1).val < 2048 := (i 1).isLt; omega⟩ 3 c
    (ix2 ⟨(i 0).val % 64, Nat.mod_lt _ (by decide)⟩ ⟨(i 1).val % 1024, Nat.mod_lt _ (by decide)⟩)

/-- Every block of the result is the completed sum of its stream and segment. -/
theorem resV_block (c : Dev nD) (δ g : Fin 2) : VecWindow.window (resV m c) ![64 * δ.val, 1024 * g.val] S64x1024.size (res_inb δ g) = part m δ g 3 c := by
  funext i
  have h0 : (i 0).val < 64 := (i 0).isLt
  have h1 : (i 1).val < 1024 := (i 1).isLt
  have e0 : ((Rect.unit (s := S128x2048) ![64 * δ.val, 1024 * g.val] S64x1024.size (res_inb δ g)).emb i 0).val = 64 * δ.val + 1 * (i 0).val := rfl
  have e1 : ((Rect.unit (s := S128x2048) ![64 * δ.val, 1024 * g.val] S64x1024.size (res_inb δ g)).emb i 1).val = 1024 * g.val + 1 * (i 1).val := rfl
  show resV m c ((Rect.unit (s := S128x2048) ![64 * δ.val, 1024 * g.val] S64x1024.size (res_inb δ g)).emb i) = _
  unfold resV
  have a0 : (⟨((Rect.unit (s := S128x2048) ![64 * δ.val, 1024 * g.val] S64x1024.size (res_inb δ g)).emb i 0).val / 64, by rw [e0]; have := δ.isLt; omega⟩ : Fin 2) = δ := Fin.ext (by show _ / 64 = _; rw [e0]; omega)
  have a1 : (⟨((Rect.unit (s := S128x2048) ![64 * δ.val, 1024 * g.val] S64x1024.size (res_inb δ g)).emb i 1).val / 1024, by rw [e1]; have := g.isLt; omega⟩ : Fin 2) = g := Fin.ext (by show _ / 1024 = _; rw [e1]; omega)
  rw [a0, a1]
  refine congrArg (part m δ g 3 c) (funext fun a => ?_)
  fin_cases a
  · exact Fin.ext (by show _ % 64 = _; rw [e0]; show _ = (i 0).val; omega)
  · exact Fin.ext (by show _ % 1024 = _; rw [e1]; show _ = (i 1).val; omega)

/-- Sending and arriving: what a device receives is what the neighbour's next hop adds to. -/
theorem part_succ (n : Fin 12) (c : Dev nD) : part m (str n) (seg n) ((hop n).val + 1) c = addf (came m n c) (blk m c (row (str n) ((hop n).val + 1) c) (seg n)) := rfl

end Cert.Ring
-- ==== Proof.Value.lean ====
/-
  The kernel's result at the exact values (extended reals): an entry of the accumulator is an entry of the device's local
  product, and an entry of the result is the sum of the four devices' local products at one row. The ring adds the devices in
  an order that depends on the stream; addition of extended reals is commutative and associative, so both orders give the
  same sum.
-/
module

public import proofs.«01_k».proof.Proof.Ring
public import Idealize.ShloMosaic.Lib.MatmulPlain
public import Idealize.ShloMosaic.Lib.Pipeline.Value
@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

open scoped BigOperators

variable (m : (ℓ : Loc nD τ sig) → Buf (Elt Ideal) ℓ)

/-! ## One entry of a local product -/

/-- Entry `(r, j)` of the product of device `c`'s rows: the sum over its 512 rows `k` of `x[k, r] · dy[k, j]`. -/
def ent (c : Dev nD) (r : Fin 512) (j : Fin 2048) : EReal :=
  ∑ k : Fin 512, (show EReal from xv m c (ix2 k r)) * (show EReal from yv m c (ix2 k j))

/-- A matrix product onto zeros, read at an entry. -/
theorem dot_zero {M K N' : ℕ} (A : FVec Ideal ⟨2, ![M, K]⟩ .f32) (B : FVec Ideal ⟨2, ![K, N']⟩ .f32) (r : Fin M) (j : Fin N') :
    FloatOps.matmul (DotDims.plain M K N') none A B (constant ⟨2, ![M, N']⟩ .f32 0x00000000#32) (ix2 r j)
      = ∑ k : Fin K, A (ix2 r k) * B (ix2 k j) := by
  refine (Ideal.matmul_plain_apply none A B _ r j).trans ?_
  show Ideal.ofBits .f32 0x00000000#32 + _ = _
  rw [Ideal.ofBits_zero_f32, zero_add]
  rfl

/-- The transposed operand: entry `(r, k)` is `x[k, r]`. -/
theorem xt_apply (c : Dev nD) (r k : Fin 512) : xt m c (ix2 r k) = xv m c (ix2 k r) := by
  unfold xt k0_pay1
  simp only [Idealize.ShloMosaic.shapeCast_self]
  exact transpose_apply _ _ _ _ _ (by intro b; fin_cases b <;> rfl)

/-- The product of a 64-row window is the local product's rows from `64 · b`. -/
theorem prod64_apply (c : Dev nD) (b : Fin 8) (i : Fin 64) (j : Fin 2048) (r : Fin 512) (hr : r.val = 64 * b.val + i.val) :
    prod64 m c b (ix2 i j) = ent m c r j := by
  unfold prod64 k0_pay4
  simp only [Idealize.ShloMosaic.shapeCast_self]
  refine (dot_zero (M := 64) (K := 512) (N' := 2048) _ _ i j).trans (Finset.sum_congr rfl fun k _ => ?_)
  refine congrArg (· * (show EReal from yv m c (ix2 k j))) ?_
  refine Eq.trans (congrArg (xt m c) (funext fun a => ?_)) (xt_apply m c r k)
  fin_cases a
  · exact Fin.ext (by show 64 * b.val + 1 * i.val = r.val; omega)
  · exact Fin.ext (by show 0 + 1 * k.val = k.val; omega)

/-- The product of a 128-row window is the local product's rows from `128 · q`. -/
theorem prod128_apply (c : Dev nD) (q : Fin 4) (i : Fin 128) (j : Fin 2048) (r : Fin 512) (hr : r.val = 128 * q.val + i.val) :
    prod128 m c q (ix2 i j) = ent m c r j := by
  unfold prod128 k0_pay9
  simp only [Idealize.ShloMosaic.shapeCast_self]
  refine (dot_zero (M := 128) (K := 512) (N' := 2048) _ _ i j).trans (Finset.sum_congr rfl fun k _ => ?_)
  refine congrArg (· * (show EReal from yv m c (ix2 k j))) ?_
  refine Eq.trans (congrArg (xt m c) (funext fun a => ?_)) (xt_apply m c r k)
  fin_cases a
  · exact Fin.ext (by show 128 * q.val + 1 * i.val = r.val; omega)
  · exact Fin.ext (by show 0 + 1 * k.val = k.val; omega)

/-- The accumulator holds the local product, whichever way a chunk was computed. -/
theorem accV_apply (c : Dev nD) (r : Fin 512) (j : Fin 2048) : accV m c (ix2 r j) = ent m c r j := by
  have hr := r.isLt
  unfold accV
  split
  · exact prod128_apply m c _ _ j r (by show r.val = 128 * (r.val / 128) + r.val % 128; omega)
  · exact prod64_apply m c _ _ j r (by show r.val = 64 * (r.val / 64) + r.val % 64; omega)

/-- A block of the accumulator, read at an entry. -/
theorem blk_apply (c : Dev nD) (b : Fin 8) (g : Fin 2) (i : Fin 64) (l : Fin 1024) (r : Fin 512) (j : Fin 2048)
    (hr : r.val = 64 * b.val + i.val) (hj : j.val = 1024 * g.val + l.val) : blk m c b g (ix2 i l) = ent m c r j := by
  refine Eq.trans (congrArg (accV m c) (funext fun a => ?_)) (accV_apply m c r j)
  fin_cases a
  · exact Fin.ext (by show 64 * b.val + 1 * i.val = r.val; omega)
  · exact Fin.ext (by show 1024 * g.val + 1 * l.val = j.val; omega)

/-! ## The sum around the ring -/

/-- The device `s` steps upstream of `c` in stream `δ`. -/
def upst (δ : Fin 2) (c : Dev nD) : ℕ → Dev nD
  | 0 => c
  | s + 1 => bwd δ (upst δ c s)

/-- Whatever the hop, a partial sum that will end on device `c` is of the rows of `c`'s chunk that belong to its stream. -/
theorem row_upst (δ : Fin 2) (c : Dev nD) (s : Fin 4) : row δ s.val (upst δ c (3 - s.val)) = ⟨2 * c.val + δ.val, by have : c.val < 4 := c.isLt; have := δ.isLt; omega⟩ := by
  revert δ c s; decide

/-- One hop of a partial sum at an entry: the upstream device's partial sum and the device's own block. -/
theorem part_hop (δ g : Fin 2) (s : ℕ) (c : Dev nD) (i : S64x1024.Idx) :
    part m δ g (s + 1) c i = (show EReal from part m δ g s (bwd δ c) i) + (show EReal from blk m c (row δ (s + 1) c) g i) := rfl

/-- The completed sum at an entry: the local products of the four devices upstream, the farthest first. -/
theorem part_apply (δ g : Fin 2) (c : Dev nD) (i : Fin 64) (l : Fin 1024) (r : Fin 512) (j : Fin 2048)
    (hr : r.val = 128 * c.val + (64 * δ.val + i.val)) (hj : j.val = 1024 * g.val + l.val) :
    part m δ g 3 c (ix2 i l) = ent m (upst δ c 3) r j + ent m (upst δ c 2) r j + ent m (upst δ c 1) r j + ent m (upst δ c 0) r j := by
  have h (s t : ℕ) (hs : s < 4) (ht : t = 3 - s) : blk m (upst δ c t) (row δ s (upst δ c t)) g (ix2 i l) = ent m (upst δ c t) r j := by
    have e := row_upst δ c ⟨s, hs⟩
    rw [← ht] at e
    rw [show row δ s (upst δ c t) = _ from e]
    exact blk_apply m _ _ g i l r j (by show r.val = 64 * (2 * c.val + δ.val) + i.val; omega) hj
  have h0 := h 0 3 (by decide) rfl
  have h1 := h 1 2 (by decide) rfl
  have h2 := h 2 1 (by decide) rfl
  have h3 := h 3 0 (by decide) rfl
  rw [← h0, ← h1, ← h2, ← h3, part_hop, part_hop, part_hop]
  rfl

/-- The four devices upstream are the four devices. -/
theorem sum_upst (δ : Fin 2) (c : Dev nD) (f : Dev nD → EReal) :
    f (upst δ c 3) + f (upst δ c 2) + f (upst δ c 1) + f (upst δ c 0) = ∑ e : Dev nD, f e := by
  have e : ∀ (δ : Fin 2) (c : Dev nD), ({upst δ c 3, upst δ c 2, upst δ c 1, upst δ c 0} : Finset (Dev nD)) = Finset.univ
      ∧ upst δ c 3 ∉ ({upst δ c 2, upst δ c 1, upst δ c 0} : Finset (Dev nD)) ∧ upst δ c 2 ∉ ({upst δ c 1, upst δ c 0} : Finset (Dev nD))
      ∧ upst δ c 1 ∉ ({upst δ c 0} : Finset (Dev nD)) := by decide
  obtain ⟨h, h3, h2, h1⟩ := e δ c
  rw [← h, Finset.sum_insert h3, Finset.sum_insert h2, Finset.sum_insert h1, Finset.sum_singleton, add_assoc, add_assoc]

/-- **The kernel's result**: entry `(i, j)` on device `c` is the sum, over all devices, of the local products at row
    `128 · c + i`. -/
theorem resV_apply (c : Dev nD) (i : Fin 128) (j : Fin 2048) (r : Fin 512) (hr : r.val = 128 * c.val + i.val) :
    resV m c (ix2 i j) = ∑ e : Dev nD, ent m e r j := by
  have hi := i.isLt
  have hj := j.isLt
  refine Eq.trans (part_apply m _ _ c _ _ r j ?_ ?_) (sum_upst ⟨i.val / 64, by omega⟩ c fun e => ent m e r j)
  · show r.val = 128 * c.val + (64 * (i.val / 64) + i.val % 64); omega
  · show j.val = 1024 * (j.val / 1024) + j.val % 1024; omega

end Cert.Ring
-- ==== Proof.Protocol.lean ====
/-
  The synchronisation of the ring as a schedule of duties.

  Every device has 25 cells. Its barrier cell is paid one unit by each neighbour; the unit from the neighbour a stream is
  sent to hands over the slots of that neighbour's buffer the stream lands in. Each of the twelve transfers has a cell at
  its sender (paid when the block has been read: the slot it was read from comes back) and one at its receiver (paid when
  the block has landed: the slot with the values that were sent). At launch a device owes both barrier units and its
  twelve transfers; the levels of the cells — barrier 1, the `n`-th arrival `n + 2`, all others 0 — order the waits.
-/
module

public import proofs.«01_k».proof.Proof.Ring

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
/-- The ghost state: the staging pipeline's copy and the ring's. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## What changes hands -/

/-- Buffer, or part of a buffer, `M` of device `c` holding `X`. -/
def holds {s : Shape} (c : Dev nD) (M : Memref sig .tc .vmem s .f32) (X : Vec F s .f32) : sProp 𝕄 :=
  M.view.loc (c : Thread nD τ) ↦[M.view.set]{fullShare} M.view.rep X
/-- The same, holding anything. -/
def free {s : Shape} (c : Dev nD) (M : Memref sig .tc .vmem s .f32) : sProp 𝕄 :=
  iprop(∃ f : Buf (Elt F) (M.view.loc (c : Thread nD τ)), M.view.loc (c : Thread nD τ) ↦[M.view.set]{fullShare} f)

omit [FloatOps F] in
instance holds_storable {s : Shape} (c : Dev nD) (M : Memref sig .tc .vmem s .f32) (X) : BI.Storable (upEmb : UEmb _ 𝕄) (holds (F := F) c M X) := by unfold holds; infer_instance
omit [FloatOps F] in
instance free_storable {s : Shape} (c : Dev nD) (M : Memref sig .tc .vmem s .f32) : BI.Storable (upEmb : UEmb _ 𝕄) (free (F := F) c M) := by unfold free; infer_instance

/-- The six slots of device `c` that stream `δ` lands in. -/
def landing (δ : Fin 2) (c : Dev nD) : sProp 𝕄 :=
  iprop(free c (slot (comm δ) 0 0) ∗ free c (slot (comm δ) 0 1) ∗ free c (slot (comm δ) 1 0) ∗ free c (slot (comm δ) 1 1)
    ∗ free c (slot (comm δ) 2 0) ∗ free c (slot (comm δ) 2 1))

omit [FloatOps F] in
instance landing_storable (δ : Fin 2) (c : Dev nD) : BI.Storable (upEmb : UEmb _ 𝕄) (landing (F := F) δ c) := by unfold landing; infer_instance

/-! ## The schedule -/

/-- The transfer a semaphore belongs to, and whether it is a receiver's. -/
def num (q : DmaSem sig) : Fin 12 := ⟨(2 * ((q.val - 3) % 6) + (q.val - 3) / 12) % 12, Nat.mod_lt _ (by decide)⟩
def isRcv (q : DmaSem sig) : Bool := decide (3 ≤ q.val ∧ (q.val - 3) / 6 % 2 = 1)
def isSnd (q : DmaSem sig) : Bool := decide (3 ≤ q.val ∧ (q.val - 3) / 6 % 2 = 0)

theorem num_snd (n : Fin 12) : num (sndS n) = n := by revert n; decide
theorem num_rcv (n : Fin 12) : num (rcvS n) = n := by revert n; decide
theorem isRcv_rcv (n : Fin 12) : isRcv (rcvS n) = true := by revert n; decide
theorem isRcv_snd (n : Fin 12) : isRcv (sndS n) = false := by revert n; decide
theorem isSnd_snd (n : Fin 12) : isSnd (sndS n) = true := by revert n; decide

/-- The stream whose landing slots a barrier duty hands over. -/
def strOf (d : Bool) : Fin 2 := if d then 0 else 1
/-- The barrier duty of a stream. -/
def dutyOf (δ : Fin 2) : Bool := decide (δ = 0)

/-- What duty `d` of a cell hands its waiter. -/
def pay (c : Dev nD) (d : Bool) : SemLoc sig → sProp 𝕄
  | .reg _ => landing (strOf d) (fwd (strOf d) c)
  | .dma q =>
    if isRcv q then holds c (dstM (num q)) (came m (num q) c)
    else if isSnd q then holds c (srcM (num q)) (sent m (num q) c)
    else iprop(emp)

instance pay_storable (c : Dev nD) (d : Bool) (s : SemLoc sig) : BI.Storable (upEmb : UEmb _ 𝕄) (pay m c d s) := by
  cases s with
  | reg s => unfold pay; infer_instance
  | dma q => unfold pay; dsimp only; (repeat' split) <;> infer_instance

/-- The duties of a cell in its only round. -/
def duty : SemLoc sig → Finset Bool
  | .reg _ => Finset.univ
  | .dma q => if 3 ≤ q.val then {false} else ∅

/-- The units of a duty. -/
def units : SemLoc sig → ℕ
  | .reg _ => 1
  | .dma _ => N

theorem units_pos (s : SemLoc sig) : 0 < units s := by cases s with | reg s => exact Nat.one_pos | dma q => exact N_pos

/-- The ring's schedule: one round. -/
def Rd : Rounds.Schedule (GSem nD τ sig) Bool 𝕄 where
  duties g r := if r = 0 ∧ g.1.2 = .tc then duty g.2 else ∅
  unitless _ := False
  amount g _ _ := units g.2
  payload g _ d := pay m g.1.1 d g.2
  amount_pos g _ _ _ := units_pos g.2

instance Rd_storable (g : GSem nD τ sig) (r : ℕ) (d : Bool) : BI.Storable (upEmb : UEmb _ 𝕄) ((Rd (F := F) m).payload g r d) := by
  show BI.Storable upEmb (pay m g.1.1 d g.2); infer_instance

section Sched
variable (n : Fin 12) (c : Dev nD)

theorem duties_bar : (Rd (F := F) m).duties (barC c) 0 = Finset.univ := by dsimp only [Rd]; rw [if_pos ⟨rfl, rfl⟩]; rfl
theorem duties_dma (q : DmaSem sig) (h : 3 ≤ q.val) : (Rd (F := F) m).duties ((c : Thread nD τ), .dma q) 0 = {false} := by
  dsimp only [Rd]; rw [if_pos ⟨rfl, rfl⟩]; dsimp only [duty]; rw [if_pos h]
theorem duties_snd : (Rd (F := F) m).duties (sndC n c) 0 = {false} := duties_dma m c (sndS n) (by revert n; decide)
theorem duties_rcv : (Rd (F := F) m).duties (rcvC n c) 0 = {false} := duties_dma m c (rcvS n) (by revert n; decide)
theorem duties_later (g : GSem nD τ sig) : ∀ r, 1 ≤ r → (Rd (F := F) m).duties g r = ∅ := fun r hr => by
  dsimp only [Rd]; rw [if_neg fun h => by omega]

theorem expect_bar : (Rd (F := F) m).expect (barC c) 0 = 2 := by
  unfold Schedule.expect Schedule.amountOf; rw [duties_bar]; rfl
theorem expect_snd : (Rd (F := F) m).expect (sndC n c) 0 = N := by
  unfold Schedule.expect Schedule.amountOf; rw [duties_snd, Finset.sum_singleton]; rfl
theorem expect_rcv : (Rd (F := F) m).expect (rcvC n c) 0 = N := by
  unfold Schedule.expect Schedule.amountOf; rw [duties_rcv, Finset.sum_singleton]; rfl

theorem payload_bar (d : Bool) : (Rd (F := F) m).payload (barC c) 0 d = landing (strOf d) (fwd (strOf d) c) := rfl
theorem payload_snd (d : Bool) : (Rd (F := F) m).payload (sndC n c) 0 d = holds c (srcM n) (sent m n c) := by
  show pay m c d (.dma (sndS n)) = _
  unfold pay; dsimp only; rw [isRcv_snd, isSnd_snd, num_snd]; rfl
theorem payload_rcv (d : Bool) : (Rd (F := F) m).payload (rcvC n c) 0 d = holds c (dstM n) (came m n c) := by
  show pay m c d (.dma (rcvS n)) = _
  unfold pay; dsimp only; rw [isRcv_rcv, num_rcv]; rfl

/-- What a wait for a cell's whole round brings. -/
theorem rest_bar : bigSep ((Rd (F := F) m).duties (barC c) 0 \ ∅) (fun d => (Rd (F := F) m).payload (barC c) 0 d) = iprop(landing 0 (nxt c) ∗ landing 1 (prv c)) := by
  rw [Finset.sdiff_empty, duties_bar, bigSep_univ_eq_bigSepL [true, false] (by decide) (by decide), bigSepL_cons_cons, bigSepL_singleton]
  rfl
theorem rest_snd : bigSep ((Rd (F := F) m).duties (sndC n c) 0 \ ∅) (fun d => (Rd (F := F) m).payload (sndC n c) 0 d) = holds c (srcM n) (sent m n c) := by
  rw [Finset.sdiff_empty, duties_snd, bigSep_singleton, payload_snd]
theorem rest_rcv : bigSep ((Rd (F := F) m).duties (rcvC n c) 0 \ ∅) (fun d => (Rd (F := F) m).payload (rcvC n c) 0 d) = holds c (dstM n) (came m n c) := by
  rw [Finset.sdiff_empty, duties_rcv, bigSep_singleton, payload_rcv]

end Sched

/-! ## What a device owes, and the levels -/

/-- The debt of the last `j` transfers of device `c`. -/
def due (c : Dev nD) : ℕ → CellTallies nD τ sig Unit
  | 0 => 0
  | j + 1 => due c j + tallyAt (rcvC ⟨11 - j, by omega⟩ (tgt ⟨11 - j, by omega⟩ c)) () N

theorem due_step (c : Dev nD) (n : Fin 12) : due c (12 - n.val) = due c (11 - n.val) + tallyAt (rcvC n (tgt n c)) () N := by
  revert n; intro n; fin_cases n <;> rfl

/-- The debt at launch; the signal to the left neighbour pays the last summand, the one to the right neighbour the next. -/
def O₁ (c : Dev nD) : CellTallies nD τ sig Unit := due c 12 + tallyAt (barC (nxt c)) () 1
def O₀ (c : Dev nD) : CellTallies nD τ sig Unit := O₁ c + tallyAt (barC (prv c)) () 1

def L (g : GSem nD τ sig) : Finset Unit := if g.1.2 = .tc then {()} else ∅
def lv (g : GSem nD τ sig) (_ : Unit) : ℕ :=
  match g.2 with
  | .reg _ => 1
  | .dma q => if isRcv q then (num q).val + 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_rcv (n : Fin 12) (c : Dev nD) : lv (rcvC n c) () = n.val + 2 := by
  dsimp only [lv]; rw [isRcv_rcv, num_rcv]; rfl

/-- A positive entry of a tally plus one more cell. -/
theorem pos_add {O : CellTallies nD τ sig Unit} {g h : GSem nD τ sig} {u : Unit} {k : ℕ} (hg : 0 < (O + tallyAt h () k) g u) : 0 < O g u ∨ g = h := by
  rw [Pi.add_apply, Finsupp.add_apply, tallyAt_apply] at hg
  by_cases e : g = h ∧ u = ()
  · exact .inr e.1
  · rw [if_neg e] at hg; exact .inl hg

/-- The last `j` transfers are owed to the cells of arrivals `12 - j …` only. -/
theorem due_pos {c : Dev nD} {g : GSem nD τ sig} {u : Unit} : ∀ {j : ℕ}, j ≤ 12 → 0 < due c j g u → ∃ n : Fin 12, 12 ≤ n.val + j ∧ g = rcvC n (tgt n c)
  | 0, _, h => absurd h (Nat.lt_irrefl 0)
  | j + 1, hj, h => by
    rcases pos_add (O := due c j) h with h | h
    · obtain ⟨n, hn, e⟩ := due_pos (by omega) h; exact ⟨n, by omega, e⟩
    · exact ⟨⟨11 - j, by omega⟩, by show 12 ≤ 11 - j + (j + 1); omega, h⟩

theorem O₀_pos {c : Dev nD} {g : GSem nD τ sig} {u : Unit} (h : 0 < O₀ c g u) : (∃ n : Fin 12, g = rcvC n (tgt n c)) ∨ g = barC (nxt c) ∨ g = barC (prv c) := by
  rcases pos_add h with h | h
  · rcases pos_add h with h | h
    · obtain ⟨n, -, e⟩ := due_pos (le_refl _) h; exact .inl ⟨n, e⟩
    · exact .inr (.inl h)
  · exact .inr (.inr h)

/-- A device may wait on a cell of a level below the arrivals it still owes. -/
theorem mayWait_due (c : Dev nD) (sm : SemLoc sig) (j : ℕ) (hj : j ≤ 12) (h : lv ((c : Thread nD τ), sm) () < 14 - j) :
    (levAts L lv : sProp 𝕄) ⊢ MayWait (c : Thread nD τ) sm () (due c j) :=
  MayOwe.of_cut (L := L) (lev := lv) (13 - j) (fun p hp => by rw [Finset.mem_singleton.mp hp, L_tc]; exact Finset.mem_singleton_self _)
    (fun g u hg => by obtain ⟨n, -, rfl⟩ := due_pos hj hg; exact Finset.mem_singleton_self _)
    (fun p hp => by rw [Finset.mem_singleton.mp hp]; exact Nat.le_of_lt_succ (lt_of_lt_of_le h (by omega)))
    (fun g u hg => by obtain ⟨n, hn, rfl⟩ := due_pos hj hg; rw [show lv (rcvC n (tgt n c)) u = n.val + 2 from lv_rcv n _]; omega)

/-- It may wait on a cell of level 0 with its whole debt. -/
theorem mayWait_start (c : Dev nD) (sm : SemLoc sig) (h : lv ((c : Thread nD τ), sm) () = 0) :
    (levAts L lv : sProp 𝕄) ⊢ MayWait (c : Thread nD τ) sm () (O₀ c) :=
  MayOwe.of_cut (L := L) (lev := lv) 0 (fun p hp => by rw [Finset.mem_singleton.mp hp, L_tc]; exact Finset.mem_singleton_self _)
    (fun g u hg => by rcases O₀_pos hg with ⟨n, rfl⟩ | rfl | rfl <;> exact Finset.mem_singleton_self _)
    (fun p hp => by rw [Finset.mem_singleton.mp hp]; exact le_of_eq h)
    (fun g u hg => by
      rcases O₀_pos hg with ⟨n, rfl⟩ | rfl | rfl
      · rw [show lv (rcvC n (tgt n c)) u = n.val + 2 from lv_rcv n _]; omega
      · exact Nat.one_pos
      · exact Nat.one_pos)

end Cert.Ring
-- ==== Proof.Steps.lean ====
/-
  One lemma per kind of step of the kernel's body: a load and a store of a window of a buffer, the same for a slot of a
  communication buffer and for the accumulator and the result block by block, a transfer, the wait for an arrival and the
  wait for a departure. Each says: from these resources the program may take the step, and goes on with those.
-/
module

public import proofs.«01_k».proof.Proof.Protocol

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- A program run by the core of device `c`. -/
abbrev Run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable {c : Dev nD} {α : Type}

/-! ## Windows of a buffer -/

section Windows
variable {s : Shape} {M : Memref sig .tc .vmem s .f32} {X : Vec F s .f32}

/-- A load reads the window. -/
theorem load_window {Q : α → sProp 𝕄} {off size : Fin s.rank → ℕ} {inb : ∀ a, off a + size a ≤ s.size a} (off' : Fin s.rank → ℕ) (inb' : ∀ a, off' a + size a ≤ s.size a)
    (h : off = off') {hl : M.view.LoadsAt (Rect.unit off size inb).toLoadRect}
    {k : ((Rect.unit off size inb).toLoadRect.shape.Idx → Elt F .f32) → Prog (TpuEff nD τ sig (Elt F) Λ₀ .tc) α} :
    holds c M X ⊢ iprop((holds c M X -∗ Run c (k (VecWindow.window X off' size inb')) Q) -∗ Run c (.op (.load M (Rect.unit off size inb).toLoadRect hl) k) Q) := by
  iintro H Hk
  unfold holds
  iapply (wp_load 𝒱₀ (c : Thread nD τ) none Set.univ (m := M) (M.view.setOn_subset_set _)) $$ H
  iintro H
  rw [View.readAt_rep_unit M.view X inb h inb']
  iapply Hk; iexact H

/-- A load of everything. -/
theorem load_all {Q : α → sProp 𝕄} {off : Fin s.rank → ℕ} {inb : ∀ a, off a + s.size a ≤ s.size a} {hl : M.view.LoadsAt (Rect.unit off s.size inb).toLoadRect}
    {k : ((Rect.unit off s.size inb).toLoadRect.shape.Idx → Elt F .f32) → Prog (TpuEff nD τ sig (Elt F) Λ₀ .tc) α} :
    holds c M X ⊢ iprop((holds c M X -∗ Run c (k X) Q) -∗ Run c (.op (.load M (Rect.unit off s.size inb).toLoadRect hl) k) Q) := by
  iintro H Hk
  unfold holds
  iapply (wp_load 𝒱₀ (c : Thread nD τ) none Set.univ (m := M) (M.view.setOn_subset_set _)) $$ H
  iintro H
  rw [View.readAt_rep_full M.view X inb]
  iapply Hk; iexact H

/-- A store puts its payload over the window. -/
theorem store_window {Q : α → sProp 𝕄} {off size : Fin s.rank → ℕ} {inb : ∀ a, off a + size a ≤ s.size a} (off' : Fin s.rank → ℕ) (h : off = off')
    {w : (Rect.unit off size inb).shape.Idx → Elt F .f32} {hx : (M.access (Rect.unit off size inb)).Stores Finset.univ}
    {hm : (Finset.univ : Finset (Rect.unit off size inb).shape.Idx) = Finset.univ ∨ ∀ a, (Rect.unit off size inb).stride a = 1}
    {k : PUnit → Prog (TpuEff nD τ sig (Elt F) Λ₀ .tc) α} :
    holds c M X ⊢ iprop((holds c M (VecWindow.put X off' size w) -∗ Run c (k ⟨⟩) Q)
      -∗ Run c (.op (.store M (Rect.unit off size inb) w Finset.univ hx hm) k) Q) := by
  iintro H Hk
  unfold holds
  iapply (wp_store 𝒱₀ (c : Thread nD τ) none Set.univ (m := M) (r := Rect.unit off size inb) (Mk := Finset.univ) (S := M.view.set) (f := M.view.rep X)
    (((M.access _).setOn_subset_set _).trans (M.view.set_slice_subset _))) $$ H
  iintro H
  iapply Hk
  iapply (pointsTo_rep_of_read (c : Thread nD τ) M _ fullShare _ ?_) $$ H
  exact View.read_writes_rep_unit M.view X inb w h

/-- A load of a buffer whose contents nobody reads. -/
theorem load_free {Q : α → sProp 𝕄} {off size : Fin s.rank → ℕ} {inb : ∀ a, off a + size a ≤ s.size a} {hl : M.view.LoadsAt (Rect.unit off size inb).toLoadRect}
    {k : ((Rect.unit off size inb).toLoadRect.shape.Idx → Elt F .f32) → Prog (TpuEff nD τ sig (Elt F) Λ₀ .tc) α} :
    free (F := F) c M ⊢ iprop((∀ v : (Rect.unit off size inb).toLoadRect.shape.Idx → Elt F .f32, free (F := F) c M -∗ Run c (k v) Q)
      -∗ Run c (.op (.load M (Rect.unit off size inb).toLoadRect hl) k) Q) := by
  iintro H Hk
  unfold free
  icases H with ⟨%f, H⟩
  iapply (wp_load 𝒱₀ (c : Thread nD τ) none Set.univ (m := M) (r := (Rect.unit off size inb).toLoadRect) (M.view.setOn_subset_set _)) $$ H
  iintro H
  iapply Hk
  iexists f; iexact H

/-- A store of everything leaves the payload. -/
theorem store_all {Q : α → sProp 𝕄} {off : Fin s.rank → ℕ} {inb : ∀ a, off a + s.size a ≤ s.size a}
    {w : Vec F s .f32} {hx : (M.access (Rect.unit off s.size inb)).Stores Finset.univ}
    {hm : (Finset.univ : Finset (Rect.unit off s.size inb).shape.Idx) = Finset.univ ∨ ∀ a, (Rect.unit off s.size inb).stride a = 1}
    {k : PUnit → Prog (TpuEff nD τ sig (Elt F) Λ₀ .tc) α} :
    free (F := F) c M ⊢ iprop((holds c M w -∗ Run c (k ⟨⟩) Q)
      -∗ Run c (.op (.store M (Rect.unit off s.size inb) w Finset.univ hx hm) k) Q) := by
  iintro H Hk
  unfold free holds
  icases H with ⟨%f, H⟩
  iapply (wp_store 𝒱₀ (c : Thread nD τ) none Set.univ (m := M) (r := Rect.unit off s.size inb) (Mk := Finset.univ) (S := M.view.set) (f := f)
    (((M.access _).setOn_subset_set _).trans (M.view.set_slice_subset _))) $$ H
  iintro H
  iapply Hk
  iapply (pointsTo_rep_of_read (c : Thread nD τ) M _ fullShare _ ?_) $$ H
  exact View.read_writes_full M.view f inb w []

end Windows

/-! ## A window of a buffer held on its own

The slots of the communication buffers are held one by one; the body's loads and stores reach a slot through the whole
buffer, at the slot's window, and see its block with the unit axes a squeeze drops. -/

section Slots
variable {s t : Shape} {M : Memref sig .tc .vmem s .f32} {off size : Fin s.rank → ℕ} {inb : ∀ a, off a + size a ≤ s.size a}
  {hq : (Rect.unit off size inb).shape.Squeezes t}

/-- The window `off`, `size` of `M`, its unit axes dropped. -/
abbrev win (M : Memref sig .tc .vmem s .f32) (off size : Fin s.rank → ℕ) (inb : ∀ a, off a + size a ≤ s.size a) (hq : (Rect.unit off size inb).shape.Squeezes t) :
    Memref sig .tc .vmem t .f32 := (M.slice (Rect.unit off size inb) (fun _ => rfl)).squeeze t hq

theorem win_set : M.view.setOn (Rect.unit off size inb).toLoadRect.set ⊆ (win M off size inb hq).view.set := by
  rw [Memref.set_view_squeeze]
  exact (View.set_slice M.view (Rect.unit off size inb)).ge

/-- A load of a slot reads its block. -/
theorem load_win {Q : α → sProp 𝕄} {X : Vec F t .f32} {off' : Fin s.rank → ℕ} {inb' : ∀ a, off' a + size a ≤ s.size a} (h : off' = off)
    (hc : (Rect.unit off' size inb').shape.ShapeCasts t)
    {hl : M.view.LoadsAt (Rect.unit off' size inb').toLoadRect}
    {kk : ((Rect.unit off' size inb').toLoadRect.shape.Idx → Elt F .f32) → Prog (TpuEff nD τ sig (Elt F) Λ₀ .tc) α} :
    holds c (win M off size inb hq) X
      ⊢ iprop((∀ v : (Rect.unit off' size inb').toLoadRect.shape.Idx → Elt F .f32, ⌜shapeCast t v hc = X⌝ -∗ holds c (win M off size inb hq) X -∗ Run c (kk v) Q)
      -∗ Run c (.op (.load M (Rect.unit off' size inb').toLoadRect hl) kk) Q) := by
  subst h
  iintro H Hk
  unfold holds
  iapply (wp_load 𝒱₀ (c : Thread nD τ) none Set.univ (m := M) (r := (Rect.unit off' size inb').toLoadRect)
    (S := (win M off' size inb hq).view.set) (win_set (hq := hq))) $$ H
  iintro H
  iapply Hk $$ [] H
  ipureintro
  exact View.read_rep (win M off' size inb hq).view X

/-- A load of a slot whose contents nobody reads. -/
theorem load_win_free {Q : α → sProp 𝕄} {off' : Fin s.rank → ℕ} {inb' : ∀ a, off' a + size a ≤ s.size a} (h : off' = off)
    {hl : M.view.LoadsAt (Rect.unit off' size inb').toLoadRect}
    {kk : ((Rect.unit off' size inb').toLoadRect.shape.Idx → Elt F .f32) → Prog (TpuEff nD τ sig (Elt F) Λ₀ .tc) α} :
    free (F := F) c (win M off size inb hq)
      ⊢ iprop((∀ v : (Rect.unit off' size inb').toLoadRect.shape.Idx → Elt F .f32, free (F := F) c (win M off size inb hq) -∗ Run c (kk v) Q)
      -∗ Run c (.op (.load M (Rect.unit off' size inb').toLoadRect hl) kk) Q) := by
  subst h
  iintro H Hk
  unfold free
  icases H with ⟨%f, H⟩
  iapply (wp_load 𝒱₀ (c : Thread nD τ) none Set.univ (m := M) (r := (Rect.unit off' size inb').toLoadRect)
    (S := (win M off' size inb hq).view.set) (win_set (hq := hq))) $$ H
  iintro H
  iapply Hk
  iexists f; iexact H

/-- A store of a slot leaves the payload's block there. -/
theorem store_win {Q : α → sProp 𝕄} (Y : Vec F t .f32) {off' : Fin s.rank → ℕ} {inb' : ∀ a, off' a + size a ≤ s.size a} (h : off' = off)
    {w : (Rect.unit off' size inb').shape.Idx → Elt F .f32} {hc : (Rect.unit off' size inb').shape.ShapeCasts t} (hw : shapeCast t w hc = Y)
    {hx : (M.access (Rect.unit off' size inb')).Stores Finset.univ}
    {hm : (Finset.univ : Finset (Rect.unit off' size inb').shape.Idx) = Finset.univ ∨ ∀ a, (Rect.unit off' size inb').stride a = 1}
    {kk : PUnit → Prog (TpuEff nD τ sig (Elt F) Λ₀ .tc) α} :
    free (F := F) c (win M off size inb hq) ⊢ iprop((holds c (win M off size inb hq) Y -∗ Run c (kk ⟨⟩) Q)
      -∗ Run c (.op (.store M (Rect.unit off' size inb') w Finset.univ hx hm) kk) Q) := by
  subst h hw
  iintro H Hk
  unfold free holds
  icases H with ⟨%f, H⟩
  iapply (wp_store 𝒱₀ (c : Thread nD τ) none Set.univ (m := M) (r := Rect.unit off' size inb') (Mk := Finset.univ) (S := (win M off' size inb hq).view.set) (f := f)
    (by rw [Memref.set_view_squeeze]; exact View.setOn_subset_set _ _)) $$ H
  iintro H
  iapply Hk
  iapply (pointsTo_rep_of_read (c : Thread nD τ) (win M off' size inb hq) _ fullShare _ ?_) $$ H
  exact congrArg (fun v => shapeCast t v hc) (View.read_write_univ (v := M.access (Rect.unit off' size inb')) f w)

/-- Contents may be forgotten. -/
theorem holds_free {M : Memref sig .tc .vmem t .f32} {X : Vec F t .f32} : holds c M X ⊢ free (F := F) c M := by
  unfold holds free
  iintro H; iexists _; iexact H

end Slots

end Cert.Ring
-- ==== Proof.Blocks.lean ====
/-
  The accumulator and the result, block by block.

  The accumulator is filled 64 or 128 rows at a time and read in blocks of 64 rows and 1024 columns; the result is
  written in four blocks. Each is held together with the list of the blocks that are final.
-/
module

public import proofs.«01_k».proof.Proof.Steps

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The contents -/

/-- Rows `64·b …` of `f` are final. -/
def RowsOk (c : Dev nD) (f : Vec F S512x2048 .f32) (b : Fin 8) : Prop := ∀ i : S512x2048.Idx, (i 0).val / 64 = b.val → f i = accV m c i
/-- Block `(δ, g)` of the result `f` is final. -/
def BlockOk (c : Dev nD) (f : Vec F S128x2048 .f32) (p : Fin 2 × Fin 2) : Prop :=
  ∀ i : S128x2048.Idx, (i 0).val / 64 = p.1.val → (i 1).val / 1024 = p.2.val → f i = resV m c i

variable {m} {c : Dev nD}

/-- A value put over a window, inside it. -/
theorem put_in {s : Shape} {e : Type} (x : s.Idx → e) (off size : Fin s.rank → ℕ) (w : ((a : Fin s.rank) → Fin (size a)) → e) (y : s.Idx)
    (h : ∀ a, off a ≤ (y a).val ∧ (y a).val < off a + size a) : VecWindow.put x off size w y = w (Rect.unitLocal (s := s) (off := off) (size := size) y h) := dif_pos h
/-- A value put over a window, outside it. -/
theorem put_out {s : Shape} {e : Type} (x : s.Idx → e) (off size : Fin s.rank → ℕ) (w : ((a : Fin s.rank) → Fin (size a)) → e) (y : s.Idx)
    (h : ¬ ∀ a, off a ≤ (y a).val ∧ (y a).val < off a + size a) : VecWindow.put x off size w y = x y := dif_neg h

theorem rows_put64 {f : Vec F S512x2048 .f32} {b : Fin 8} (hb : (b.val / 2 + c.val) % 2 = 1) :
    RowsOk m c (VecWindow.put f ![64 * b.val, 0] S64x2048.size (prod64 m c b)) b := fun i hi => by
  have h1 : (i 1).val < 2048 := (i 1).isLt
  have hin : ∀ a, (![64 * b.val, 0] : Fin 2 → ℕ) a ≤ (i a).val ∧ (i a).val < (![64 * b.val, 0] : Fin 2 → ℕ) a + S64x2048.size a := fun a => by
    fin_cases a
    · show 64 * b.val ≤ (i 0).val ∧ (i 0).val < 64 * b.val + 64; omega
    · show 0 ≤ (i 1).val ∧ (i 1).val < 0 + 2048; omega
  rw [put_in f _ _ _ i hin]
  unfold accV
  rw [if_neg (by omega)]
  have e : (⟨(i 0).val / 64, by have : (i 0).val < 512 := (i 0).isLt; omega⟩ : Fin 8) = b := Fin.ext hi
  rw [e]
  refine congrArg (prod64 m c b) (funext fun a => ?_)
  fin_cases a
  · exact Fin.ext (by show (i 0).val - 64 * b.val = (i 0).val % 64; omega)
  · exact Fin.ext (by show (i 1).val - 0 = (i 1).val; omega)

theorem rows_put64_of_ne {f : Vec F S512x2048 .f32} {b b' : Fin 8} (hf : RowsOk m c f b') (h : b' ≠ b) (w) :
    RowsOk m c (VecWindow.put f ![64 * b.val, 0] S64x2048.size w) b' := fun i hi => by
  rw [put_out f _ _ _ i (fun hin => h (Fin.ext ?_))]
  · exact hf i hi
  · have : 64 * b.val ≤ (i 0).val ∧ (i 0).val < 64 * b.val + 64 := hin 0
    omega

theorem rows_put128 {f : Vec F S512x2048 .f32} {k : Fin 4} (hk : (k.val + c.val) % 2 = 0) {b : Fin 8} (hb : b.val / 2 = k.val) :
    RowsOk m c (VecWindow.put f ![128 * k.val, 0] S128x2048.size (prod128 m c k)) b := fun i hi => by
  have h1 : (i 1).val < 2048 := (i 1).isLt
  have hin : ∀ a, (![128 * k.val, 0] : Fin 2 → ℕ) a ≤ (i a).val ∧ (i a).val < (![128 * k.val, 0] : Fin 2 → ℕ) a + S128x2048.size a := fun a => by
    fin_cases a
    · show 128 * k.val ≤ (i 0).val ∧ (i 0).val < 128 * k.val + 128; omega
    · show 0 ≤ (i 1).val ∧ (i 1).val < 0 + 2048; omega
  rw [put_in f _ _ _ i hin]
  unfold accV
  rw [if_pos (by omega)]
  have e : (⟨(i 0).val / 128, by have : (i 0).val < 512 := (i 0).isLt; omega⟩ : Fin 4) = k := Fin.ext (by show (i 0).val / 128 = _; omega)
  rw [e]
  refine congrArg (prod128 m c k) (funext fun a => ?_)
  fin_cases a
  · exact Fin.ext (by show (i 0).val - 128 * k.val = (i 0).val % 128; omega)
  · exact Fin.ext (by show (i 1).val - 0 = (i 1).val; omega)

theorem rows_put128_of_ne {f : Vec F S512x2048 .f32} {k : Fin 4} {b' : Fin 8} (hf : RowsOk m c f b') (h : b'.val / 2 ≠ k.val) (w) :
    RowsOk m c (VecWindow.put f ![128 * k.val, 0] S128x2048.size w) b' := fun i hi => by
  rw [put_out f _ _ _ i (fun hin => h ?_)]
  · exact hf i hi
  · have : 128 * k.val ≤ (i 0).val ∧ (i 0).val < 128 * k.val + 128 := hin 0
    omega

/-- A window of final rows. -/
theorem rows_window {f : Vec F S512x2048 .f32} {b : Fin 8} (hf : RowsOk m c f b) (g : Fin 2) :
    VecWindow.window f ![64 * b.val, 1024 * g.val] S64x1024.size (half_inb b g) = blk m c b g := funext fun i => hf _ (by
  have h0 : (i 0).val < 64 := (i 0).isLt
  show (64 * b.val + 1 * (i 0).val) / 64 = b.val
  omega)

theorem block_put {f : Vec F S128x2048 .f32} (δ g : Fin 2) : BlockOk m c (VecWindow.put f ![64 * δ.val, 1024 * g.val] S64x1024.size (part m δ g 3 c)) (δ, g) := fun i h0 h1 => by
  have h0' : (i 0).val / 64 = δ.val := h0
  have h1' : (i 1).val / 1024 = g.val := h1
  have hin : ∀ a, (![64 * δ.val, 1024 * g.val] : Fin 2 → ℕ) a ≤ (i a).val ∧ (i a).val < (![64 * δ.val, 1024 * g.val] : Fin 2 → ℕ) a + S64x1024.size a := fun a => by
    fin_cases a
    · show 64 * δ.val ≤ (i 0).val ∧ (i 0).val < 64 * δ.val + 64; omega
    · show 1024 * g.val ≤ (i 1).val ∧ (i 1).val < 1024 * g.val + 1024; omega
  rw [put_in f _ _ _ i hin]
  unfold resV
  have e0 : (⟨(i 0).val / 64, by have : (i 0).val < 128 := (i 0).isLt; omega⟩ : Fin 2) = δ := Fin.ext h0'
  have e1 : (⟨(i 1).val / 1024, by have : (i 1).val < 2048 := (i 1).isLt; omega⟩ : Fin 2) = g := Fin.ext h1'
  rw [e0, e1]
  refine congrArg (part m δ g 3 c) (funext fun a => ?_)
  fin_cases a
  · exact Fin.ext (by show (i 0).val - 64 * δ.val = (i 0).val % 64; omega)
  · exact Fin.ext (by show (i 1).val - 1024 * g.val = (i 1).val % 1024; omega)

theorem block_put_of_ne {f : Vec F S128x2048 .f32} {p : Fin 2 × Fin 2} (hf : BlockOk m c f p) (δ g : Fin 2) (h : p ≠ (δ, g)) (w) :
    BlockOk m c (VecWindow.put f ![64 * δ.val, 1024 * g.val] S64x1024.size w) p := fun i h0 h1 => by
  rw [put_out f _ _ _ i (fun hin => h (Prod.ext (Fin.ext ?_) (Fin.ext ?_)))]
  · exact hf i h0 h1
  · have : 64 * δ.val ≤ (i 0).val ∧ (i 0).val < 64 * δ.val + 64 := hin 0
    show p.1.val = δ.val; omega
  · have : 1024 * g.val ≤ (i 1).val ∧ (i 1).val < 1024 * g.val + 1024 := hin 1
    show p.2.val = g.val; omega

/-- The result with its four blocks final. -/
theorem blocks_all {f : Vec F S128x2048 .f32} (h : ∀ p, BlockOk m c f p) : f = resV m c := funext fun i =>
  h (⟨(i 0).val / 64, by have : (i 0).val < 128 := (i 0).isLt; omega⟩, ⟨(i 1).val / 1024, by have : (i 1).val < 2048 := (i 1).isLt; omega⟩) i rfl rfl

/-! ## Held with the list of final blocks -/

variable (m c)

/-- The accumulator, the rows of the blocks in `S` final. -/
def acc (S : List (Fin 8)) : sProp 𝕄 := iprop(∃ f : Vec F S512x2048 .f32, ⌜∀ b ∈ S, RowsOk m c f b⌝ ∗ holds c aM f)
/-- The result, the blocks in `S` final. -/
def res (S : List (Fin 2 × Fin 2)) : sProp 𝕄 := iprop(∃ f : Vec F S128x2048 .f32, ⌜∀ p ∈ S, BlockOk m c f p⌝ ∗ holds c oM f)

variable {m c} {α : Type}

theorem load_acc {Q : α → sProp 𝕄} {S : List (Fin 8)} (b : Fin 8) (g : Fin 2) (hb : b ∈ S) {off : Fin 2 → ℕ} {inb : ∀ a, off a + S64x1024.size a ≤ S512x2048.size a}
    (h : off = ![64 * b.val, 1024 * g.val]) {hl : aM.view.LoadsAt (Rect.unit (s := S512x2048) off S64x1024.size inb).toLoadRect}
    {k : Vec F S64x1024 .f32 → Prog (TpuEff nD τ sig (Elt F) Λ₀ .tc) α} :
    acc m c S ⊢ iprop((acc m c S -∗ Run c (k (blk m c b g)) Q) -∗ Run c (.op (.load aM (Rect.unit (s := S512x2048) off S64x1024.size inb).toLoadRect hl) k) Q) := by
  unfold acc
  iintro ⟨%f, %hf, H⟩ Hk
  iapply (load_window _ (half_inb b g) h) $$ H
  iintro H
  rw [rows_window (hf b hb) g]
  iapply Hk
  iexists f
  isplitr; · ipureintro; exact hf
  iexact H

theorem load_acc_any {Q : α → sProp 𝕄} {S : List (Fin 8)} {off size : Fin 2 → ℕ} {inb : ∀ a, off a + size a ≤ S512x2048.size a}
    {hl : aM.view.LoadsAt (Rect.unit (s := S512x2048) off size inb).toLoadRect}
    {k : ((Rect.unit (s := S512x2048) off size inb).toLoadRect.shape.Idx → Elt F .f32) → Prog (TpuEff nD τ sig (Elt F) Λ₀ .tc) α} :
    acc m c S ⊢ iprop((∀ v : (Rect.unit (s := S512x2048) off size inb).toLoadRect.shape.Idx → Elt F .f32, acc m c S -∗ Run c (k v) Q)
      -∗ Run c (.op (.load aM (Rect.unit (s := S512x2048) off size inb).toLoadRect hl) k) Q) := by
  unfold acc
  iintro ⟨%f, %hf, H⟩ Hk
  iapply (load_window _ inb rfl) $$ H
  iintro H
  iapply Hk
  iexists f
  isplitr; · ipureintro; exact hf
  iexact H

theorem store_acc64 {Q : α → sProp 𝕄} {S : List (Fin 8)} (b : Fin 8) (hb : (b.val / 2 + c.val) % 2 = 1) {off : Fin 2 → ℕ} {inb : ∀ a, off a + S64x2048.size a ≤ S512x2048.size a}
    (h : off = ![64 * b.val, 0]) {w : Vec F S64x2048 .f32} (hw : w = prod64 m c b)
    {hx : (aM.access (Rect.unit (s := S512x2048) off S64x2048.size inb)).Stores Finset.univ}
    {hm : (Finset.univ : Finset (Rect.unit (s := S512x2048) off S64x2048.size inb).shape.Idx) = Finset.univ ∨ ∀ a, (Rect.unit (s := S512x2048) off S64x2048.size inb).stride a = 1}
    {k : PUnit → Prog (TpuEff nD τ sig (Elt F) Λ₀ .tc) α} :
    acc m c S ⊢ iprop((acc m c (b :: S) -∗ Run c (k ⟨⟩) Q) -∗ Run c (.op (.store aM (Rect.unit (s := S512x2048) off S64x2048.size inb) w Finset.univ hx hm) k) Q) := by
  subst hw
  unfold acc
  iintro ⟨%f, %hf, H⟩ Hk
  iapply (store_window _ h) $$ H
  iintro H
  iapply Hk
  iexists _
  isplitr; rotate_left
  · iexact H
  ipureintro
  intro b' hb'
  by_cases e : b' = b
  · subst e; exact rows_put64 hb
  · exact rows_put64_of_ne (hf b' ((List.mem_cons.mp hb').resolve_left e)) e _

theorem store_acc128 {Q : α → sProp 𝕄} {S : List (Fin 8)} (k : Fin 4) (hk : (k.val + c.val) % 2 = 0) {off : Fin 2 → ℕ} {inb : ∀ a, off a + S128x2048.size a ≤ S512x2048.size a}
    (h : off = ![128 * k.val, 0]) {w : Vec F S128x2048 .f32} (hw : w = prod128 m c k)
    {hx : (aM.access (Rect.unit (s := S512x2048) off S128x2048.size inb)).Stores Finset.univ}
    {hm : (Finset.univ : Finset (Rect.unit (s := S512x2048) off S128x2048.size inb).shape.Idx) = Finset.univ ∨ ∀ a, (Rect.unit (s := S512x2048) off S128x2048.size inb).stride a = 1}
    {kk : PUnit → Prog (TpuEff nD τ sig (Elt F) Λ₀ .tc) α} :
    acc m c S ⊢ iprop((acc m c (⟨2 * k.val, by omega⟩ :: ⟨2 * k.val + 1, by omega⟩ :: S) -∗ Run c (kk ⟨⟩) Q)
      -∗ Run c (.op (.store aM (Rect.unit (s := S512x2048) off S128x2048.size inb) w Finset.univ hx hm) kk) Q) := by
  subst hw
  unfold acc
  iintro ⟨%f, %hf, H⟩ Hk
  iapply (store_window _ h) $$ H
  iintro H
  iapply Hk
  iexists _
  isplitr; rotate_left
  · iexact H
  ipureintro
  intro b' hb'
  by_cases e : b'.val / 2 = k.val
  · exact rows_put128 hk e
  · refine rows_put128_of_ne (hf b' ?_) e _
    rcases List.mem_cons.mp hb' with rfl | hb'
    · exact absurd (show 2 * k.val / 2 = k.val by omega) e
    · rcases List.mem_cons.mp hb' with rfl | hb'
      · exact absurd (show (2 * k.val + 1) / 2 = k.val by omega) e
      · exact hb'

theorem load_res_any {Q : α → sProp 𝕄} {S : List (Fin 2 × Fin 2)} {off size : Fin 2 → ℕ} {inb : ∀ a, off a + size a ≤ S128x2048.size a}
    {hl : oM.view.LoadsAt (Rect.unit (s := S128x2048) off size inb).toLoadRect}
    {k : ((Rect.unit (s := S128x2048) off size inb).toLoadRect.shape.Idx → Elt F .f32) → Prog (TpuEff nD τ sig (Elt F) Λ₀ .tc) α} :
    res m c S ⊢ iprop((∀ v : (Rect.unit (s := S128x2048) off size inb).toLoadRect.shape.Idx → Elt F .f32, res m c S -∗ Run c (k v) Q)
      -∗ Run c (.op (.load oM (Rect.unit (s := S128x2048) off size inb).toLoadRect hl) k) Q) := by
  unfold res
  iintro ⟨%f, %hf, H⟩ Hk
  iapply (load_window _ inb rfl) $$ H
  iintro H
  iapply Hk
  iexists f
  isplitr; · ipureintro; exact hf
  iexact H

theorem store_res {Q : α → sProp 𝕄} {S : List (Fin 2 × Fin 2)} (δ g : Fin 2) {off : Fin 2 → ℕ} {inb : ∀ a, off a + S64x1024.size a ≤ S128x2048.size a}
    (h : off = ![64 * δ.val, 1024 * g.val]) {w : Vec F S64x1024 .f32} (hw : w = part m δ g 3 c)
    {hx : (oM.access (Rect.unit (s := S128x2048) off S64x1024.size inb)).Stores Finset.univ}
    {hm : (Finset.univ : Finset (Rect.unit (s := S128x2048) off S64x1024.size inb).shape.Idx) = Finset.univ ∨ ∀ a, (Rect.unit (s := S128x2048) off S64x1024.size inb).stride a = 1}
    {k : PUnit → Prog (TpuEff nD τ sig (Elt F) Λ₀ .tc) α} :
    res m c S ⊢ iprop((res m c ((δ, g) :: S) -∗ Run c (k ⟨⟩) Q) -∗ Run c (.op (.store oM (Rect.unit (s := S128x2048) off S64x1024.size inb) w Finset.univ hx hm) k) Q) := by
  subst hw
  unfold res
  iintro ⟨%f, %hf, H⟩ Hk
  iapply (store_window _ h) $$ H
  iintro H
  iapply Hk
  iexists _
  isplitr; rotate_left
  · iexact H
  ipureintro
  intro p hp
  by_cases e : p = (δ, g)
  · subst e; exact block_put δ g
  · exact block_put_of_ne (hf p ((List.mem_cons.mp hp).resolve_left e)) δ g e _

end Cert.Ring
-- ==== Proof.Transfers.lean ====
/-
  The synchronising steps: a transfer, the wait for an arrival, the wait for a departure.
-/
module

public import proofs.«01_k».proof.Proof.Blocks

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells, listed -/

/-- The 25 semaphores of a device: the barrier, then the transfers' in order. -/
def csem (i : Fin 25) : SemLoc sig := if i = 0 then .reg barS else .dma (⟨i.val + 2, by omega⟩ : Fin 27)
abbrev kcell (ck : Dev nD × Fin 25) : GSem nD τ sig := ((ck.1 : Thread nD τ), csem ck.2)

/-- The places of a transfer's two semaphores in that list. -/
def sndI (n : Fin 12) : Fin 25 := ⟨1 + 12 * (n.val % 2) + n.val / 2, by omega⟩
def rcvI (n : Fin 12) : Fin 25 := ⟨7 + 12 * (n.val % 2) + n.val / 2, by omega⟩

theorem csem_bar : csem 0 = .reg barS := rfl
theorem csem_snd (n : Fin 12) : csem (sndI n) = .dma (sndS n) := by revert n; decide
theorem csem_rcv (n : Fin 12) : csem (rcvI n) = .dma (rcvS n) := by revert n; decide

/-! ## What everybody knows -/

/-- Every cell's invariant (under the name `K` gives it), that every cell has reached its round, and the levels. -/
def recs (K : Dev nD × Fin 25 → ℕ) : sProp 𝕄 :=
  iprop(bigSep Finset.univ (fun ck : Dev nD × Fin 25 => iprop(cellInv ER (Rd m) (K ck) (kcell ck) ∗ reached ER (kcell ck) 0)) ∗ levAts L lv)

instance recs_persistent (K : Dev nD × Fin 25 → ℕ) : BI.Persistent (recs m K) := by unfold recs; infer_instance

variable {m} {K : Dev nD × Fin 25 → ℕ}

theorem recs_lev : recs m K ⊢ levAts L lv := by unfold recs; iintro ⟨-, H⟩; iexact H
theorem recs_at (ck : Dev nD × Fin 25) : recs m K ⊢ iprop(cellInv ER (Rd m) (K ck) (kcell ck) ∗ reached ER (kcell ck) 0) := by
  unfold recs
  iintro ⟨H, -⟩
  iapply ((Entails.of_eq (bigSep_erase (Finset.mem_univ ck))).trans sep_elim_left) $$ H
theorem recs_bar (c : Dev nD) : recs m K ⊢ iprop(cellInv ER (Rd m) (K (c, 0)) (barC c) ∗ reached ER (barC c) 0) := recs_at (c, 0)
theorem recs_snd (n : Fin 12) (c : Dev nD) : recs m K ⊢ iprop(cellInv ER (Rd m) (K (c, sndI n)) (sndC n c) ∗ reached ER (sndC n c) 0) := by
  have h := recs_at (m := m) (K := K) (c, sndI n)
  unfold kcell at h; rw [csem_snd] at h; exact h
theorem recs_rcv (n : Fin 12) (c : Dev nD) : recs m K ⊢ iprop(cellInv ER (Rd m) (K (c, rcvI n)) (rcvC n c) ∗ reached ER (rcvC n c) 0) := by
  have h := recs_at (m := m) (K := K) (c, rcvI n)
  unfold kcell at h; rw [csem_rcv] at h; exact h

/-! ## What one device holds for one transfer -/

/-- It still owes its last `j` transfers. -/
def owing (c : Dev nD) (j : ℕ) : sProp 𝕄 := iprop(∃ W, owes (c : Thread nD τ) (due c j) W)
/-- Before transfer `n`: its place at its own cell, the two duties, the slot the transfer lands in. -/
def ready (n : Fin 12) (c : Dev nD) : sProp 𝕄 :=
  iprop(atPos ER (sndC n c) 0 ∅ 0 ∗ dutyTok ER (sndC n c) 0 false ∗ dutyTok ER (rcvC n (tgt n c)) 0 false ∗ free (tgt n c) (dstM n))
/-- After transfer `n`, before the wait for its departure. -/
def flying (n : Fin 12) (c : Dev nD) : sProp 𝕄 := iprop(cred (tallyAt (sndC n c) () N) ∗ atPos ER (sndC n c) 0 ∅ 0)
/-- After that wait. -/
def gone (n : Fin 12) (c : Dev nD) : sProp 𝕄 := atPos ER (sndC n c) 1 ∅ 0
/-- Before the wait for arrival `n`, and after it. -/
def awaited (n : Fin 12) (c : Dev nD) : sProp 𝕄 := iprop(cred (tallyAt (rcvC n c) () N) ∗ atPos ER (rcvC n c) 0 ∅ 0)
def arrived (n : Fin 12) (c : Dev nD) : sProp 𝕄 := atPos ER (rcvC n c) 1 ∅ 0

variable {c : Dev nD} {α : Type}

/-! ## The steps -/

/-- What a transfer writes is what it read. -/
theorem landed (n : Fin 12) (d : Dev nD) (X : Vec F S64x1024 .f32) (fd : Buf (Elt F) ((dstM n).view.loc (d : Thread nD τ))) :
    ((dstM n).view.loc (d : Thread nD τ) ↦[(dstM n).view.set]{fullShare} ((dstM n).view.write (Elt F) fd ((srcM n).view.read (Elt F) ((srcM n).view.rep X)) Finset.univ) : sProp 𝕄)
      ⊢ holds d (dstM n) X := by
  unfold holds
  exact pointsTo_rep_of_read (d : Thread nD τ) (dstM n) _ fullShare X (by rw [View.read_rep]; exact View.read_write_univ _ _)

/-- TRANSFER `n`: the block in the slot it is sent out of leaves, with the duty of both its cells. -/
theorem step_send {Q : α → sProp 𝕄} (n : Fin 12) (j : ℕ) (hj : n.val + j = 11) {p : Dev nD} (hp : p = tgt n c) {src dst : Memref sig .tc .vmem S64x1024 .f32} (hsM : src = srcM n) (hdM : dst = dstM n)
    {sS vS : DmaSem sig} (hsS : sS = sndS n) (hvS : vS = rcvS n)
    {hsc : dst.view.ref.isScScratch = false} {hsrc : src.view.WordExact} {hdst : dst.view.WordExact}
    {hsem : DmaTarget.Typed .vmem (.dma vS) (.remote (Dev.tc p : Thread nD τ) dst (.dma sS) hsc)}
    {k : PUnit → Prog (TpuEff nD τ sig (Elt F) Λ₀ .tc) α} :
    iprop(recs m K ∗ ready n c ∗ holds c (srcM n) (sent m n c) ∗ owing c (j + 1))
      ⊢ iprop((flying n c -∗ owing c j -∗ Run c (k ⟨⟩) Q)
        -∗ Run c (.op (.enqueueDma src (.remote (Dev.tc p : Thread nD τ) dst (.dma sS) hsc) (.dma vS) hsrc hdst hsem) k) Q) := by
  subst hp hsM hdM hsS hvS
  have hj0 : j = 11 - n.val := by omega
  have hj1 : j + 1 = 12 - n.val := by omega
  rw [hj1, hj0]
  unfold ready owing free
  iintro ⟨#HR, ⟨Hat, HtS, HtV, ⟨%fd, Hd⟩⟩, Hs, ⟨%W, HO⟩⟩ Hk
  ihave ⟨HIs, Hrs⟩ := (recs_snd n c) $$ HR
  ihave ⟨HIv, Hrv⟩ := (recs_rcv n (tgt n c)) $$ HR
  unfold holds
  iapply (Rounds.wp_send_pointsTo 𝒱₀ ER (Rd m) (c : Thread nD τ) none (κ₁ := K (c, sndI n)) (κ₂ := K (tgt n c, rcvI n))
    (r₁ := 0) (r₂ := 0) (d₁ := false) (d₂ := false) (fd := fd)
    (by rw [duties_snd]; exact Finset.mem_singleton_self _) (by rw [duties_rcv]; exact Finset.mem_singleton_self _)
    () () N (show (dstM n).view.amount (.dma (rcvS n)) = N from credit_eq n) rfl rfl (due c (11 - n.val)) (due_step c n) (W := W)
    (by rw [payload_snd]; exact BI.Entails.refl _)
    (by rw [payload_rcv]; unfold came frm tgt; rw [bwd_fwd]; exact landed n _ _ fd)) $$ [HIs HIv Hs Hd HO HtS Hrs HtV Hrv]
  · isplitl [HIs]; · iexact HIs
    isplitl [HIv]; · iexact HIv
    isplitl [Hs]; · iexact Hs
    isplitl [Hd]; · iexact Hd
    isplitl [HO]; · iexact HO
    isplitl [HtS]; · iexact HtS
    isplitl [Hrs]; · iexact Hrs
    isplitl [HtV]; · iexact HtV
    iexact Hrv
  iintro ⟨Hc, HO⟩
  iapply Hk $$ [Hc Hat] [HO]
  · unfold flying
    isplitl [Hc]; · iexact Hc
    iexact Hat
  · iexists W; iexact HO

/-- The wait for ARRIVAL `n`: the slot it landed in comes, with what was sent. -/
theorem step_arrive {Q : α → sProp 𝕄} (n : Fin 12) (j : ℕ) (hj : n.val + j < 12) {vS : DmaSem sig} (hvS : vS = rcvS n)
    {src dst : Memref sig .tc .vmem S64x1024 .f32} (hdM : dst.view.dmaCredit = N) {hsrc : src.view.WordExact} {hdst : dst.view.WordExact}
    {k : PUnit → Prog (TpuEff nD τ sig (Elt F) Λ₀ .tc) α} :
    iprop(recs m K ∗ awaited n c ∗ owing c j)
      ⊢ iprop((arrived n c -∗ holds c (dstM n) (came m n c) -∗ owing c j -∗ Run c (k ⟨⟩) Q)
        -∗ Run c (.op (.waitDma2 vS src dst hsrc hdst) k) Q) := by
  subst hvS
  unfold awaited owing
  iintro ⟨#HR, ⟨Hc, Hat⟩, ⟨%W, HO⟩⟩ Hk
  ihave ⟨HI, -⟩ := (recs_rcv n c) $$ HR
  ihave Hlev := recs_lev $$ HR
  iapply (Rounds.wp_wait_rest_token 𝒱₀ ER (Rd m) (c : Thread nD τ) none (κ := K (c, rcvI n))
      (wpE_waitDma2_eq 𝒱₀ (c : Thread nD τ) none Set.univ) (Set.mem_univ _) () (O := due c j) (W := W) (R := 0) (m := 0) (T := ∅) (k' := dst.view.dmaCredit)
      (by rw [expect_rcv]; exact (Nat.zero_add _).trans hdM)) $$ [HI Hc HO Hlev Hat]
  · isplitl [HI]; · iexact HI
    isplitl [Hc]; · rw [hdM]; iexact Hc
    isplitl [HO]; · iexact HO
    isplitl [Hlev]
    · iapply (mayWait_due c (.dma (rcvS n)) j (by omega) (by rw [show lv ((c : Thread nD τ), .dma (rcvS n)) () = n.val + 2 from lv_rcv n c]; omega)); iexact Hlev
    iexact Hat
  iintro ⟨HO, Hat, -, Hp⟩
  ihave Hp := (Entails.of_eq (rest_rcv m n c)) $$ Hp
  iapply Hk $$ [Hat] Hp [HO]
  · unfold arrived; iexact Hat
  · iexists _; iexact HO

/-- The wait for DEPARTURE `n`: the slot it was read from comes back. -/
theorem step_depart {Q : α → sProp 𝕄} (n : Fin 12) {sS : DmaSem sig} (hsS : sS = sndS n)
    {src dst : Memref sig .tc .vmem S64x1024 .f32} (hdM : dst.view.dmaCredit = N) {hsrc : src.view.WordExact} {hdst : dst.view.WordExact}
    {k : PUnit → Prog (TpuEff nD τ sig (Elt F) Λ₀ .tc) α} :
    iprop(recs m K ∗ flying n c ∗ owing c 0)
      ⊢ iprop((gone n c -∗ holds c (srcM n) (sent m n c) -∗ owing c 0 -∗ Run c (k ⟨⟩) Q)
        -∗ Run c (.op (.waitDma2 sS src dst hsrc hdst) k) Q) := by
  subst hsS
  unfold flying owing
  iintro ⟨#HR, ⟨Hc, Hat⟩, ⟨%W, HO⟩⟩ Hk
  ihave ⟨HI, -⟩ := (recs_snd n c) $$ HR
  iapply (Rounds.wp_wait_rest_token 𝒱₀ ER (Rd m) (c : Thread nD τ) none (κ := K (c, sndI n))
      (wpE_waitDma2_eq 𝒱₀ (c : Thread nD τ) none Set.univ) (Set.mem_univ _) () (O := due c 0) (W := W) (R := 0) (m := 0) (T := ∅) (k' := dst.view.dmaCredit)
      (by rw [expect_snd]; exact (Nat.zero_add _).trans hdM)) $$ [HI Hc HO Hat]
  · isplitl [HI]; · iexact HI
    isplitl [Hc]; · rw [hdM]; iexact Hc
    isplitl [HO]; · iexact HO
    isplitr
    · rw [show due c 0 = 0 from rfl, MayWait_zero]; iempintro
    iexact Hat
  iintro ⟨HO, Hat, -, Hp⟩
  ihave Hp := (Entails.of_eq (rest_snd m n c)) $$ Hp
  iapply Hk $$ [Hat] Hp [HO]
  · unfold gone; iexact Hat
  · iexists _; iexact HO

end Cert.Ring
-- ==== Proof.Folds.lean ====
/-
  The two patterns the body repeats on a slot of a communication buffer, and the closed forms of the places they touch.

  Before the first hop a block of the accumulator is copied into a slot; before a later hop the block is added to what
  has arrived in the slot. Each is one lemma here, for every stream, segment and hop.
-/
module

public import proofs.«01_k».proof.Proof.Blocks
public import proofs.«01_k».proof.Proof.Transfers
public import Idealize.ShloMosaic.Lib.Pipeline.Value
public import Idealize.ShloMosaic.Lib.SparseCore.ProtocolKit

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Offsets and devices in closed form -/

theorem off1_eq (c : Dev nD) : k0_off1 c = ![64 * (row 0 0 c).val, 0] := by revert c; decide +kernel
theorem off2_eq (c : Dev nD) : k0_off2 c = ![64 * (row 0 0 c).val, 0] := by revert c; decide +kernel
theorem off3_eq (c : Dev nD) : k0_off3 c = ![64 * (row 1 0 c).val, 0] := by revert c; decide +kernel
theorem off4_eq (c : Dev nD) : k0_off4 c = ![64 * (row 1 0 c).val, 0] := by revert c; decide +kernel
theorem off5_eq (c : Dev nD) : k0_off5 c = ![64 * (row 0 0 c).val, 1024 * (0 : Fin 2).val] := by revert c; decide +kernel
theorem off6_eq (c : Dev nD) : k0_off6 c = ![64 * (row 1 0 c).val, 1024 * (0 : Fin 2).val] := by revert c; decide +kernel
theorem off7_eq (c : Dev nD) : k0_off7 c = ![64 * (row 0 0 c).val, 1024 * (1 : Fin 2).val] := by revert c; decide +kernel
theorem off8_eq (c : Dev nD) : k0_off8 c = ![64 * (row 1 0 c).val, 1024 * (1 : Fin 2).val] := by revert c; decide +kernel

/-- The chunk `r` places to the right of a device's own. -/
def chunk (r : ℕ) (c : Dev nD) : Fin 4 := ⟨(c.val + r) % 4, Nat.mod_lt _ (by decide)⟩

theorem off9_eq (c : Dev nD) : k0_off9 c = ![128 * (chunk 2 c).val, 0] := by revert c; decide +kernel
theorem off10_eq (c : Dev nD) : k0_off10 c = ![128 * (chunk 2 c).val, 0] := by revert c; decide +kernel
theorem off11_eq (c : Dev nD) : k0_off11 c = ![64 * (row 0 2 c).val, 0] := by revert c; decide +kernel
theorem off12_eq (c : Dev nD) : k0_off12 c = ![64 * (row 0 2 c).val, 0] := by revert c; decide +kernel
theorem off13_eq (c : Dev nD) : k0_off13 c = ![64 * (row 1 2 c).val, 0] := by revert c; decide +kernel
theorem off14_eq (c : Dev nD) : k0_off14 c = ![64 * (row 1 2 c).val, 0] := by revert c; decide +kernel
theorem off15_eq (c : Dev nD) : k0_off15 c = ![128 * (chunk 0 c).val, 0] := by revert c; decide +kernel
theorem off16_eq (c : Dev nD) : k0_off16 c = ![128 * (chunk 0 c).val, 0] := by revert c; decide +kernel

/-- The block added before hop `s + 1` (or to the result), upper rows and lower rows, first and second column segment. -/
theorem off17_eq (c : Dev nD) (s : Fin 3) : k0_off17 c (BitVec.ofNat 32 s.val) = ![64 * (row 0 (s.val + 1) c).val, 1024 * (0 : Fin 2).val] := by revert c s; decide +kernel
theorem off18_eq (c : Dev nD) (s : Fin 3) : k0_off18 c (BitVec.ofNat 32 s.val) = ![64 * (row 1 (s.val + 1) c).val, 1024 * (0 : Fin 2).val] := by revert c s; decide +kernel
theorem off19_eq (c : Dev nD) (s : Fin 3) : k0_off19 c (BitVec.ofNat 32 s.val) = ![64 * (row 0 (s.val + 1) c).val, 1024 * (1 : Fin 2).val] := by revert c s; decide +kernel
theorem off20_eq (c : Dev nD) (s : Fin 3) : k0_off20 c (BitVec.ofNat 32 s.val) = ![64 * (row 1 (s.val + 1) c).val, 1024 * (1 : Fin 2).val] := by revert c s; decide +kernel

theorem dev1_eq (c : Dev nD) : (⟨k0_dev1 c, k0_dev1_lt c⟩ : Dev nD) = prv c := by revert c; decide +kernel
theorem dev2_eq (c : Dev nD) : (⟨k0_dev2 c, k0_dev2_lt c⟩ : Dev nD) = nxt c := by revert c; decide +kernel
theorem dev3_eq (c : Dev nD) : (⟨k0_dev3 c, k0_dev3_lt c⟩ : Dev nD) = tgt 0 c := by revert c; decide +kernel
theorem dev4_eq (c : Dev nD) : (⟨k0_dev4 c, k0_dev4_lt c⟩ : Dev nD) = tgt 1 c := by revert c; decide +kernel
theorem dev5_eq (c : Dev nD) : (⟨k0_dev5 c, k0_dev5_lt c⟩ : Dev nD) = tgt 2 c := by revert c; decide +kernel
theorem dev6_eq (c : Dev nD) : (⟨k0_dev6 c, k0_dev6_lt c⟩ : Dev nD) = tgt 3 c := by revert c; decide +kernel
theorem dev7_eq (c : Dev nD) : (⟨k0_dev7 c, k0_dev7_lt c⟩ : Dev nD) = tgt 4 c := by revert c; decide +kernel
theorem dev8_eq (c : Dev nD) : (⟨k0_dev8 c, k0_dev8_lt c⟩ : Dev nD) = tgt 5 c := by revert c; decide +kernel
theorem dev9_eq (c : Dev nD) : (⟨k0_dev9 c, k0_dev9_lt c⟩ : Dev nD) = tgt 6 c := by revert c; decide +kernel
theorem dev10_eq (c : Dev nD) : (⟨k0_dev10 c, k0_dev10_lt c⟩ : Dev nD) = tgt 7 c := by revert c; decide +kernel
theorem dev11_eq (c : Dev nD) : (⟨k0_dev11 c, k0_dev11_lt c⟩ : Dev nD) = tgt 8 c := by revert c; decide +kernel
theorem dev12_eq (c : Dev nD) : (⟨k0_dev12 c, k0_dev12_lt c⟩ : Dev nD) = tgt 9 c := by revert c; decide +kernel
theorem dev13_eq (c : Dev nD) : (⟨k0_dev13 c, k0_dev13_lt c⟩ : Dev nD) = tgt 10 c := by revert c; decide +kernel
theorem dev14_eq (c : Dev nD) : (⟨k0_dev14 c, k0_dev14_lt c⟩ : Dev nD) = tgt 11 c := by revert c; decide +kernel

/-- Which chunks are computed 64 rows at a time, and which 128. -/
theorem odd_row (δ : Fin 2) (c : Dev nD) : ((row δ 0 c).val / 2 + c.val) % 2 = 1 ∧ ((row δ 2 c).val / 2 + c.val) % 2 = 1 := by revert δ c; decide +kernel
theorem even_chunk (c : Dev nD) : ((chunk 0 c).val + c.val) % 2 = 0 ∧ ((chunk 2 c).val + c.val) % 2 = 0 := by revert c; decide +kernel

/-- The eight blocks of rows are all among those the body computes. -/
theorem every_row (c : Dev nD) : ∀ b : Fin 8, b ∈ (⟨2 * (chunk 0 c).val, by omega⟩ :: ⟨2 * (chunk 0 c).val + 1, by omega⟩ :: row 1 2 c :: row 0 2 c ::
    ⟨2 * (chunk 2 c).val, by omega⟩ :: ⟨2 * (chunk 2 c).val + 1, by omega⟩ :: [row 1 0 c, row 0 0 c] : List (Fin 8)) := by revert c; decide +kernel

/-- An accumulator with every block final, whatever the order they were computed in. -/
theorem acc_all {m : (ℓ : Loc nD τ sig) → Buf (Elt F) ℓ} {c : Dev nD} {S : List (Fin 8)} (h : ∀ b, b ∈ S) : acc m c S ⊢ acc m c (List.finRange 8) := by
  unfold acc
  iintro ⟨%f, %hf, H⟩
  iexists f
  isplitr; · ipureintro; exact fun b _ => hf b (h b)
  iexact H

/-- A transfer of the next hop leaves from the slot the last one landed in, and carries what arrived there plus the device's own block. -/
theorem next_hop (m : (ℓ : Loc nD τ sig) → Buf (Elt F) ℓ) (n n' : Fin 12) (hn : n'.val = n.val + 4) (c : Dev nD) :
    sent m n' c = part m (str n) (seg n) ((hop n).val + 1) c ∧ srcM n' = dstM n := by
  have e1 : str n' = str n := Fin.ext (by show n'.val % 2 = n.val % 2; omega)
  have e2 : seg n' = seg n := Fin.ext (by show n'.val / 2 % 2 = n.val / 2 % 2; omega)
  have e3 : (hop n').val = (hop n).val + 1 := by show n'.val / 4 = n.val / 4 + 1; omega
  have e4 : out n' = inn n := Fin.ext (by show (n'.val / 4 + 3) % 4 = n.val / 4; omega)
  refine ⟨?_, ?_⟩
  · unfold sent; rw [e1, e2, e3]
  · unfold srcM dstM; rw [e1, e2, e4]

/-! ## Slots -/

section Slots
variable (m : (ℓ : Loc nD τ sig) → Buf (Elt F) ℓ) {c : Dev nD} {α : Type}
variable {s : Shape} {M : Memref sig .tc .vmem s .f32} {off size : Fin s.rank → ℕ} {inb : ∀ a, off a + size a ≤ s.size a}
  {hq : (Rect.unit off size inb).shape.Squeezes S64x1024}

/-- A block of the accumulator copied into a slot. -/
theorem step_fill {Q : α → sProp 𝕄} {S : List (Fin 8)} (b : Fin 8) (g : Fin 2) (hb : b ∈ S) {oa : Fin 2 → ℕ} {inba : ∀ a, oa a + S64x1024.size a ≤ S512x2048.size a}
    (ha : oa = ![64 * b.val, 1024 * g.val]) {hla : aM.view.LoadsAt (Rect.unit (s := S512x2048) oa S64x1024.size inba).toLoadRect}
    {off' : Fin s.rank → ℕ} {inb' : ∀ a, off' a + size a ≤ s.size a} (h : off' = off) {hl : M.view.LoadsAt (Rect.unit off' size inb').toLoadRect}
    {hx : (M.access (Rect.unit off' size inb')).Stores Finset.univ}
    {hm : (Finset.univ : Finset (Rect.unit off' size inb').shape.Idx) = Finset.univ ∨ ∀ a, (Rect.unit off' size inb').stride a = 1}
    {w : Vec F S64x1024 .f32 → (Rect.unit off' size inb').shape.Idx → Elt F .f32} (hc : (Rect.unit off' size inb').shape.ShapeCasts S64x1024) (hw : ∀ v, shapeCast S64x1024 (w v) hc = v)
    {kk : PUnit → Prog (TpuEff nD τ sig (Elt F) Λ₀ .tc) α} :
    iprop(acc m c S ∗ free (F := F) c (win M off size inb hq))
      ⊢ iprop((acc m c S -∗ holds c (win M off size inb hq) (blk m c b g) -∗ Run c (kk ⟨⟩) Q)
        -∗ Run c (.op (.load aM (Rect.unit (s := S512x2048) oa S64x1024.size inba).toLoadRect hla) fun v =>
            .op (.load M (Rect.unit off' size inb').toLoadRect hl) fun _ => .op (.store M (Rect.unit off' size inb') (w v) Finset.univ hx hm) kk) Q) := by
  iintro ⟨Ha, Hs⟩ Hk
  iapply (load_acc b g hb ha) $$ Ha
  iintro Ha
  iapply (load_win_free h) $$ Hs
  iintro %u Hs
  iapply (store_win (blk m c b g) h (hw _)) $$ Hs
  iintro Hs
  iapply Hk $$ Ha Hs

/-- A block of the accumulator and the contents of a slot, both read: the sum the body forms of them. -/
theorem step_add {Q : α → sProp 𝕄} {S : List (Fin 8)} {X : Vec F S64x1024 .f32} (b : Fin 8) (g : Fin 2) (hb : b ∈ S) {oa : Fin 2 → ℕ}
    {inba : ∀ a, oa a + S64x1024.size a ≤ S512x2048.size a} (ha : oa = ![64 * b.val, 1024 * g.val])
    {hla : aM.view.LoadsAt (Rect.unit (s := S512x2048) oa S64x1024.size inba).toLoadRect}
    {off' : Fin s.rank → ℕ} {inb' : ∀ a, off' a + size a ≤ s.size a} (h : off' = off) {hl : M.view.LoadsAt (Rect.unit off' size inb').toLoadRect}
    (hc : (Rect.unit off' size inb').shape.ShapeCasts S64x1024)
    {kk : Vec F S64x1024 .f32 → ((Rect.unit off' size inb').toLoadRect.shape.Idx → Elt F .f32) → Prog (TpuEff nD τ sig (Elt F) Λ₀ .tc) α} :
    iprop(acc m c S ∗ holds c (win M off size inb hq) X)
      ⊢ iprop((∀ (v : Vec F S64x1024 .f32) (u : (Rect.unit off' size inb').toLoadRect.shape.Idx → Elt F .f32), ⌜addf (shapeCast S64x1024 u hc) v = addf X (blk m c b g)⌝
          -∗ acc m c S -∗ holds c (win M off size inb hq) X -∗ Run c (kk v u) Q)
        -∗ Run c (.op (.load aM (Rect.unit (s := S512x2048) oa S64x1024.size inba).toLoadRect hla) fun v =>
            .op (.load M (Rect.unit off' size inb').toLoadRect hl) fun u => kk v u) Q) := by
  iintro ⟨Ha, Hs⟩ Hk
  iapply (load_acc b g hb ha) $$ Ha
  iintro Ha
  iapply (load_win h hc) $$ Hs
  iintro %u %hu Hs
  iapply Hk $$ [] Ha Hs
  ipureintro
  rw [hu]

/-- A slot's contents replaced by the payload: the load before the store is of a value nobody reads. -/
theorem step_replace {Q : α → sProp 𝕄} {X : Vec F S64x1024 .f32} (Y : Vec F S64x1024 .f32)
    {off' : Fin s.rank → ℕ} {inb' : ∀ a, off' a + size a ≤ s.size a} (h : off' = off) {hl : M.view.LoadsAt (Rect.unit off' size inb').toLoadRect}
    {hx : (M.access (Rect.unit off' size inb')).Stores Finset.univ}
    {hm : (Finset.univ : Finset (Rect.unit off' size inb').shape.Idx) = Finset.univ ∨ ∀ a, (Rect.unit off' size inb').stride a = 1}
    {w : (Rect.unit off' size inb').shape.Idx → Elt F .f32} (hc : (Rect.unit off' size inb').shape.ShapeCasts S64x1024) (hw : shapeCast S64x1024 w hc = Y)
    {kk : PUnit → Prog (TpuEff nD τ sig (Elt F) Λ₀ .tc) α} :
    holds c (win M off size inb hq) X
      ⊢ iprop((holds c (win M off size inb hq) Y -∗ Run c (kk ⟨⟩) Q)
        -∗ Run c (.op (.load M (Rect.unit off' size inb').toLoadRect hl) fun _ => .op (.store M (Rect.unit off' size inb') w Finset.univ hx hm) kk) Q) := by
  iintro Hs Hk
  ihave Hs := (holds_free (F := F) (M := win M off size inb hq)) $$ Hs
  iapply (load_win_free h) $$ Hs
  iintro %u Hs
  iapply (store_win Y h hw) $$ Hs
  iintro Hs
  iapply Hk $$ Hs

/-- What has arrived in a slot, with the device's own block added to it. -/
theorem step_fold {Q : α → sProp 𝕄} {S : List (Fin 8)} {X : Vec F S64x1024 .f32} (b : Fin 8) (g : Fin 2) (hb : b ∈ S) {oa : Fin 2 → ℕ}
    {inba : ∀ a, oa a + S64x1024.size a ≤ S512x2048.size a} (ha : oa = ![64 * b.val, 1024 * g.val])
    {hla : aM.view.LoadsAt (Rect.unit (s := S512x2048) oa S64x1024.size inba).toLoadRect}
    {off' : Fin s.rank → ℕ} {inb' : ∀ a, off' a + size a ≤ s.size a} (h : off' = off) {hl : M.view.LoadsAt (Rect.unit off' size inb').toLoadRect}
    {hl' : M.view.LoadsAt (Rect.unit off' size inb').toLoadRect}
    {hx : (M.access (Rect.unit off' size inb')).Stores Finset.univ}
    {hm : (Finset.univ : Finset (Rect.unit off' size inb').shape.Idx) = Finset.univ ∨ ∀ a, (Rect.unit off' size inb').stride a = 1}
    {w : Vec F S64x1024 .f32 → ((Rect.unit off' size inb').toLoadRect.shape.Idx → Elt F .f32) → (Rect.unit off' size inb').shape.Idx → Elt F .f32}
    (hc : (Rect.unit off' size inb').shape.ShapeCasts S64x1024) (hw : ∀ v u, shapeCast S64x1024 (w v u) hc = addf (shapeCast S64x1024 u hc) v)
    {kk : PUnit → Prog (TpuEff nD τ sig (Elt F) Λ₀ .tc) α} :
    iprop(acc m c S ∗ holds c (win M off size inb hq) X)
      ⊢ iprop((acc m c S -∗ holds c (win M off size inb hq) (addf X (blk m c b g)) -∗ Run c (kk ⟨⟩) Q)
        -∗ Run c (.op (.load aM (Rect.unit (s := S512x2048) oa S64x1024.size inba).toLoadRect hla) fun v =>
            .op (.load M (Rect.unit off' size inb').toLoadRect hl) fun u =>
              .op (.load M (Rect.unit off' size inb').toLoadRect hl') fun _ => .op (.store M (Rect.unit off' size inb') (w v u) Finset.univ hx hm) kk) Q) := by
  iintro H Hk
  iapply (step_add m b g hb ha h hc) $$ H
  iintro %v %u %hvu Ha Hs
  iapply (step_replace (addf X (blk m c b g)) h hc ((hw v u).trans hvu)) $$ Hs
  iintro Hs
  iapply Hk $$ Ha Hs

end Slots

/-! ## The same for the slots of the transfers -/

section Comm
variable (m : (ℓ : Loc nD τ sig) → Buf (Elt F) ℓ) {c : Dev nD} {α : Type} {S : List (Fin 8)}
variable {M : Memref sig .tc .vmem S4x2x64x1024 .f32} {off : Fin 4 → ℕ} {inb : ∀ a, off a + S1x1x64x1024.size a ≤ S4x2x64x1024.size a}
  {hl hl' : M.view.LoadsAt (Rect.unit (s := S4x2x64x1024) off S1x1x64x1024.size inb).toLoadRect}
  {hx : (M.access (Rect.unit (s := S4x2x64x1024) off S1x1x64x1024.size inb)).Stores Finset.univ}
  {hm : (Finset.univ : Finset (Rect.unit (s := S4x2x64x1024) off S1x1x64x1024.size inb).shape.Idx) = Finset.univ ∨ ∀ a, (Rect.unit (s := S4x2x64x1024) off S1x1x64x1024.size inb).stride a = 1}
  {oa : Fin 2 → ℕ} {inba : ∀ a, oa a + S64x1024.size a ≤ S512x2048.size a} {hla : aM.view.LoadsAt (Rect.unit (s := S512x2048) oa S64x1024.size inba).toLoadRect}

/-- The slot of a transfer of the first hop, filled. -/
theorem fill {Q : α → sProp 𝕄} (n : Fin 12) (hn : hop n = 0) (hM : M = comm (str n)) (h : off = ![(out n).val, (seg n).val, 0, 0])
    (hb : row (str n) 0 c ∈ S) (ha : oa = ![64 * (row (str n) 0 c).val, 1024 * (seg n).val])
    {w : Vec F S64x1024 .f32 → Vec F S1x1x64x1024 .f32} (hw : ∀ v, shapeCast S64x1024 (w v) shapeCasts_S1x1x64x1024_S64x1024 = v)
    {kk : PUnit → Prog (TpuEff nD τ sig (Elt F) Λ₀ .tc) α} :
    iprop(acc m c S ∗ free (F := F) c (srcM n))
      ⊢ iprop((acc m c S -∗ holds c (srcM n) (sent m n c) -∗ Run c (kk ⟨⟩) Q)
        -∗ Run c (.op (.load aM (Rect.unit (s := S512x2048) oa S64x1024.size inba).toLoadRect hla) fun v =>
            .op (.load M (Rect.unit (s := S4x2x64x1024) off S1x1x64x1024.size inb).toLoadRect hl) fun _ =>
              .op (.store M (Rect.unit (s := S4x2x64x1024) off S1x1x64x1024.size inb) (w v) Finset.univ hx hm) kk) Q) := by
  subst hM
  have e : sent m n c = blk m c (row (str n) 0 c) (seg n) := by unfold sent; rw [hn]; rfl
  rw [e]
  exact step_fill m _ _ hb ha h shapeCasts_S1x1x64x1024_S64x1024 hw

/-- The arrival of transfer `n` with the device's block added: what the transfer of the next hop carries. -/
theorem fold {Q : α → sProp 𝕄} (n n' : Fin 12) (hn : n'.val = n.val + 4) (hM : M = comm (str n)) (h : off = ![(inn n).val, (seg n).val, 0, 0])
    (hb : ∀ b, b ∈ S) (ha : oa = ![64 * (row (str n) ((hop n).val + 1) c).val, 1024 * (seg n).val])
    {w : Vec F S64x1024 .f32 → Vec F S1x1x64x1024 .f32 → Vec F S1x1x64x1024 .f32}
    (hw : ∀ v u, shapeCast S64x1024 (w v u) shapeCasts_S1x1x64x1024_S64x1024 = addf (shapeCast S64x1024 u shapeCasts_S1x1x64x1024_S64x1024) v)
    {kk : PUnit → Prog (TpuEff nD τ sig (Elt F) Λ₀ .tc) α} :
    iprop(acc m c S ∗ holds c (dstM n) (came m n c))
      ⊢ iprop((acc m c S -∗ holds c (srcM n') (sent m n' c) -∗ Run c (kk ⟨⟩) Q)
        -∗ Run c (.op (.load aM (Rect.unit (s := S512x2048) oa S64x1024.size inba).toLoadRect hla) fun v =>
            .op (.load M (Rect.unit (s := S4x2x64x1024) off S1x1x64x1024.size inb).toLoadRect hl) fun u =>
              .op (.load M (Rect.unit (s := S4x2x64x1024) off S1x1x64x1024.size inb).toLoadRect hl') fun _ =>
                .op (.store M (Rect.unit (s := S4x2x64x1024) off S1x1x64x1024.size inb) (w v u) Finset.univ hx hm) kk) Q) := by
  subst hM
  have e := next_hop m n n' hn c
  rw [e.1, e.2, part_succ]
  exact step_fold m _ _ (hb _) ha h shapeCasts_S1x1x64x1024_S64x1024 hw

/-- The reading half of it: the sum formed, not yet stored. -/
theorem fold_read {Q : α → sProp 𝕄} (n : Fin 12) (hM : M = comm (str n)) (h : off = ![(inn n).val, (seg n).val, 0, 0])
    (hb : ∀ b, b ∈ S) (ha : oa = ![64 * (row (str n) ((hop n).val + 1) c).val, 1024 * (seg n).val])
    {kk : Vec F S64x1024 .f32 → Vec F S1x1x64x1024 .f32 → Prog (TpuEff nD τ sig (Elt F) Λ₀ .tc) α} :
    iprop(acc m c S ∗ holds c (dstM n) (came m n c))
      ⊢ iprop((∀ v : Vec F S64x1024 .f32, ∀ u : Vec F S1x1x64x1024 .f32,
          ⌜addf (shapeCast S64x1024 u shapeCasts_S1x1x64x1024_S64x1024) v = part m (str n) (seg n) ((hop n).val + 1) c⌝
          -∗ acc m c S -∗ holds c (dstM n) (came m n c) -∗ Run c (kk v u) Q)
        -∗ Run c (.op (.load aM (Rect.unit (s := S512x2048) oa S64x1024.size inba).toLoadRect hla) fun v =>
            .op (.load M (Rect.unit (s := S4x2x64x1024) off S1x1x64x1024.size inb).toLoadRect hl) fun u => kk v u) Q) := by
  subst hM
  rw [part_succ]
  exact step_add m _ _ (hb _) ha h shapeCasts_S1x1x64x1024_S64x1024

/-- The storing half. -/
theorem fold_write {Q : α → sProp 𝕄} (n n' : Fin 12) (hn : n'.val = n.val + 4) (hM : M = comm (str n)) (h : off = ![(inn n).val, (seg n).val, 0, 0])
    {w : Vec F S1x1x64x1024 .f32}
    (hw : shapeCast S64x1024 w shapeCasts_S1x1x64x1024_S64x1024 = part m (str n) (seg n) ((hop n).val + 1) c)
    {kk : PUnit → Prog (TpuEff nD τ sig (Elt F) Λ₀ .tc) α} :
    holds c (dstM n) (came m n c)
      ⊢ iprop((holds c (srcM n') (sent m n' c) -∗ Run c (kk ⟨⟩) Q)
        -∗ Run c (.op (.load M (Rect.unit (s := S4x2x64x1024) off S1x1x64x1024.size inb).toLoadRect hl') fun _ =>
                .op (.store M (Rect.unit (s := S4x2x64x1024) off S1x1x64x1024.size inb) w Finset.univ hx hm) kk) Q) := by
  subst hM
  have e := next_hop m n n' hn c
  rw [e.1, e.2]
  refine step_replace (X := came m n c) (part m (str n) (seg n) ((hop n).val + 1) c) (inb := slot_inb _ _) h shapeCasts_S1x1x64x1024_S64x1024 ?_
  exact hw

end Comm

end Cert.Ring
-- ==== Proof.Parts.lean ====
/-
  The body's parts from the first store to the last local product: what each needs and what it leaves.

  A part is stated in front of any continuation: from the resources it touches, and the continuation run from what it
  leaves, the whole may be run.
-/
module

public import proofs.«01_k».proof.Proof.Folds

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A part of the body at the buffers and semaphores of this launch. -/
abbrev On {β : Type _} (p : (a0 : Memref sig .tc .vmem S512x512 .f32) → a0.IsWhole → (a1 : Memref sig .tc .vmem S512x2048 .f32) → a1.IsWhole
    → (a2 : Memref sig .tc .vmem S128x2048 .f32) → a2.IsWhole → (a3 : Memref sig .tc .vmem S512x512 .f32) → a3.IsWhole
    → (a4 : Memref sig .tc .vmem S512x2048 .f32) → a4.IsWhole → (a5 : Memref sig .tc .vmem S4x2x64x1024 .f32) → a5.IsWhole
    → (a6 : Memref sig .tc .vmem S4x2x64x1024 .f32) → a6.IsWhole → DmaSems sig S3x2 → DmaSems sig S3x2 → DmaSems sig S3x2 → DmaSems sig S3x2 → β) : β :=
  p (Memref.whole cc0_stg0_0) (Memref.isWhole_whole _) (Memref.whole cc0_stg1_0) (Memref.isWhole_whole _) (Memref.whole cc0_stg2_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) cc0_scratch4 cc0_scratch5 cc0_scratch6 cc0_scratch7

variable {m : (ℓ : Loc nD τ sig) → Buf (Elt F) ℓ} {K : Dev nD × Fin 25 → ℕ} {c : Dev nD} {α : Type}

/-- What every part on local data reads: the staged rows of `dy` and the transposed rows of `x`. -/
def data (m : (ℓ : Loc nD τ sig) → Buf (Elt F) ℓ) (c : Dev nD) : sProp 𝕄 := iprop(holds c tM (xt m c) ∗ holds c yM (yv m c))

theorem part2 {Q : α → sProp 𝕄} {a : BitVec 32} {kk : (Σ' (_ : BitVec 32) (_ : BitVec 32), FVec F S64x2048 .f32) → Prog (TpuEff nD τ sig (Elt F) Λ₀ .tc) α} :
    iprop(holds c xM (xv m c) ∗ holds c yM (yv m c) ∗ free (F := F) c tM)
      ⊢ iprop((∀ u : BitVec 32, ∀ v : BitVec 32, holds c xM (xv m c) -∗ data m c
          -∗ Run c (kk ⟨u, v, k0_pay2 (VecWindow.window (xt m c) ![64 * (row 0 0 c).val, 0] S64x512.size (rows64_inb (row 0 0 c))) (yv m c)⟩) Q)
        -∗ Run c (On (k0_part2 (F := F)) c a >>= kk) Q) := by
  unfold On
  rw [k0_part2_eq_skeleton]
  unfold k0_part2_skel data
  simp only [Prog.lift, Prog.bind_op, Prog.bind_ret, Prog.pure_eq_ret]
  iintro ⟨Hx, Hy, Ht⟩ Hk
  iapply load_all $$ Hx
  iintro Hx
  iapply load_free $$ Ht
  iintro %u Ht
  iapply store_all $$ Ht
  iintro Ht
  iapply (load_window _ (rows64_inb (row 0 0 c)) (off1_eq c)) $$ Ht
  iintro Ht
  iapply load_all $$ Hy
  iintro Hy
  iapply Hk $$ Hx [Ht Hy]
  iclose

theorem part3 {Q : α → sProp 𝕄} {u v : BitVec 32} {kk : BitVec 32 → Prog (TpuEff nD τ sig (Elt F) Λ₀ .tc) α} :
    iprop(data m c ∗ acc m c [] ∗ free (F := F) c (srcM 0) ∗ free (F := F) c (srcM 1))
      ⊢ iprop((∀ w : BitVec 32, data m c -∗ acc m c [row 1 0 c, row 0 0 c] -∗ holds c (srcM 0) (sent m 0 c) -∗ holds c (srcM 1) (sent m 1 c) -∗ Run c (kk w) Q)
        -∗ Run c (On (k0_part3 (F := F)) c u v (k0_pay2 (VecWindow.window (xt m c) ![64 * (row 0 0 c).val, 0] S64x512.size (rows64_inb (row 0 0 c))) (yv m c)) >>= kk) Q) := by
  unfold On
  rw [k0_part3_eq_skeleton]
  unfold k0_part3_skel data
  simp only [Prog.lift, Prog.bind_op, Prog.bind_ret, Prog.pure_eq_ret]
  iintro ⟨⟨Ht, Hy⟩, Ha, Hs0, Hs1⟩ Hk
  iapply load_acc_any $$ Ha
  iintro %v0 Ha
  iapply (store_acc64 (row 0 0 c) (odd_row 0 c).1 (off2_eq c) rfl) $$ Ha
  iintro Ha
  iapply (load_window _ (rows64_inb (row 1 0 c)) (off3_eq c)) $$ Ht
  iintro Ht
  iapply load_all $$ Hy
  iintro Hy
  iapply load_acc_any $$ Ha
  iintro %v1 Ha
  iapply (store_acc64 (row 1 0 c) (odd_row 1 c).1 (off4_eq c) rfl) $$ Ha
  iintro Ha
  iapplyF (fill (S := [row 1 0 c, row 0 0 c]) m 0 rfl rfl rfl (.tail _ (.head _)) (off5_eq c) (fun v => shapeCast_shapeCast v _ _))
  iintro Ha Hs0
  iapplyF (fill (S := [row 1 0 c, row 0 0 c]) m 1 rfl rfl rfl (.head _) (off6_eq c) (fun v => shapeCast_shapeCast v _ _))
  iintro Ha Hs1
  iapply Hk $$ [Ht Hy] Ha Hs0 Hs1
  iclose

theorem part4 {Q : α → sProp 𝕄} {x u v w : BitVec 32} {kk : PUnit → Prog (TpuEff nD τ sig (Elt F) Λ₀ .tc) α} :
    iprop(recs m K ∗ acc m c [row 1 0 c, row 0 0 c] ∗ free (F := F) c (srcM 2) ∗ free (F := F) c (srcM 3) ∗ ready (F := F) 0 c ∗ holds c (srcM 0) (sent m 0 c) ∗ owing c 12)
      ⊢ iprop((acc m c [row 1 0 c, row 0 0 c] -∗ holds c (srcM 2) (sent m 2 c) -∗ holds c (srcM 3) (sent m 3 c) -∗ flying 0 c -∗ owing c 11 -∗ Run c (kk ⟨⟩) Q)
        -∗ Run c (On (k0_part4 (F := F)) c x u v w >>= kk) Q) := by
  unfold On
  rw [k0_part4_eq_skeleton]
  unfold k0_part4_skel
  simp only [Prog.lift, Prog.bind_op, Prog.bind_ret, Prog.pure_eq_ret]
  iintro ⟨#HR, Ha, Hs2, Hs3, Hr0, Hs0, HO⟩ Hk
  iapplyF (fill (S := [row 1 0 c, row 0 0 c]) m 2 rfl rfl rfl (.tail _ (.head _)) (off7_eq c) (fun v => shapeCast_shapeCast v _ _))
  iintro Ha Hs2
  iapplyF (fill (S := [row 1 0 c, row 0 0 c]) m 3 rfl rfl rfl (.head _) (off8_eq c) (fun v => shapeCast_shapeCast v _ _))
  iintro Ha Hs3
  iapplyF (step_send (m := m) (K := K) 0 11 rfl (dev3_eq c) rfl rfl rfl rfl)
  iintro Hf HO
  iapply Hk $$ Ha Hs2 Hs3 Hf HO

theorem part5 {Q : α → sProp 𝕄} {u v : BitVec 32} {kk : PUnit → Prog (TpuEff nD τ sig (Elt F) Λ₀ .tc) α} :
    iprop(recs m K ∗ ready (F := F) 1 c ∗ ready (F := F) 2 c ∗ holds c (srcM 1) (sent m 1 c) ∗ holds c (srcM 2) (sent m 2 c) ∗ owing c 11)
      ⊢ iprop((flying 1 c -∗ flying 2 c -∗ owing c 9 -∗ Run c (kk ⟨⟩) Q)
        -∗ Run c (On (k0_part5 (F := F)) c u v >>= kk) Q) := by
  unfold On
  rw [k0_part5_eq_skeleton]
  unfold k0_part5_skel
  simp only [Prog.lift, Prog.bind_op, Prog.bind_ret, Prog.pure_eq_ret]
  iintro ⟨#HR, Hr1, Hr2, Hs1, Hs2, HO⟩ Hk
  iapplyF (step_send (m := m) (K := K) 1 10 rfl (dev4_eq c) rfl rfl rfl rfl)
  iintro Hf1 HO
  iapplyF (step_send (m := m) (K := K) 2 9 rfl (dev5_eq c) rfl rfl rfl rfl)
  iintro Hf2 HO
  iapply Hk $$ Hf1 Hf2 HO

theorem part6 {Q : α → sProp 𝕄} {S : List (Fin 8)} {u : BitVec 32} {kk : (Σ' (_ : BitVec 32) (_ : BitVec 32), BitVec 1) → Prog (TpuEff nD τ sig (Elt F) Λ₀ .tc) α} :
    iprop(recs m K ∗ ready (F := F) 3 c ∗ holds c (srcM 3) (sent m 3 c) ∗ owing c 9 ∗ data m c ∗ acc m c S)
      ⊢ iprop((∀ w : (Σ' (_ : BitVec 32) (_ : BitVec 32), BitVec 1), flying 3 c -∗ owing c 8 -∗ data m c
          -∗ acc m c (⟨2 * (chunk 2 c).val, by omega⟩ :: ⟨2 * (chunk 2 c).val + 1, by omega⟩ :: S) -∗ Run c (kk w) Q)
        -∗ Run c (On (k0_part6 (F := F)) c u >>= kk) Q) := by
  unfold On
  rw [k0_part6_eq_skeleton]
  unfold k0_part6_skel data
  simp only [Prog.lift, Prog.bind_op, Prog.bind_ret, Prog.pure_eq_ret]
  iintro ⟨#HR, Hr, Hs, HO, ⟨Ht, Hy⟩, Ha⟩ Hk
  iapplyF (step_send (m := m) (K := K) 3 8 rfl (dev6_eq c) rfl rfl rfl rfl)
  iintro Hf HO
  iapply (load_window _ (rows128_inb (chunk 2 c)) (off9_eq c)) $$ Ht
  iintro Ht
  iapply load_all $$ Hy
  iintro Hy
  iapply load_acc_any $$ Ha
  iintro %v0 Ha
  iapply (store_acc128 (chunk 2 c) (even_chunk c).2 (off10_eq c) rfl) $$ Ha
  iintro Ha
  iapply Hk $$ Hf HO [Ht Hy] Ha
  iclose

theorem part7 {Q : α → sProp 𝕄} {S : List (Fin 8)} {x u v : BitVec 32} {b : BitVec 1} {kk : FVec F S64x2048 .f32 → Prog (TpuEff nD τ sig (Elt F) Λ₀ .tc) α} :
    iprop(data m c ∗ acc m c S)
      ⊢ iprop((data m c -∗ acc m c (row 0 2 c :: S)
          -∗ Run c (kk (k0_pay11 (VecWindow.window (xt m c) ![64 * (row 1 2 c).val, 0] S64x512.size (rows64_inb (row 1 2 c))) (yv m c))) Q)
        -∗ Run c (On (k0_part7 (F := F)) c x u v b >>= kk) Q) := by
  unfold On
  rw [k0_part7_eq_skeleton]
  unfold k0_part7_skel data
  simp only [Prog.lift, Prog.bind_op, Prog.bind_ret, Prog.pure_eq_ret]
  iintro ⟨⟨Ht, Hy⟩, Ha⟩ Hk
  iapply (load_window _ (rows64_inb (row 0 2 c)) (off11_eq c)) $$ Ht
  iintro Ht
  iapply load_all $$ Hy
  iintro Hy
  iapply load_acc_any $$ Ha
  iintro %v0 Ha
  iapply (store_acc64 (row 0 2 c) (odd_row 0 c).2 (off12_eq c) rfl) $$ Ha
  iintro Ha
  iapply (load_window _ (rows64_inb (row 1 2 c)) (off13_eq c)) $$ Ht
  iintro Ht
  iapply load_all $$ Hy
  iintro Hy
  iapply Hk $$ [Ht Hy] Ha
  iclose

/-- With this the local product is complete: every block of the accumulator holds its value. -/
theorem part8 {Q : α → sProp 𝕄} {u : BitVec 32}
    {kk : (Σ' (_ : BitVec 32) (_ : BitVec 32) (_ : BitVec 32) (_ : BitVec 1) (_ : BitVec 1), BitVec 32) → Prog (TpuEff nD τ sig (Elt F) Λ₀ .tc) α} :
    iprop(data m c ∗ acc m c (row 0 2 c :: ⟨2 * (chunk 2 c).val, by omega⟩ :: ⟨2 * (chunk 2 c).val + 1, by omega⟩ :: [row 1 0 c, row 0 0 c]))
      ⊢ iprop((∀ w : (Σ' (_ : BitVec 32) (_ : BitVec 32) (_ : BitVec 32) (_ : BitVec 1) (_ : BitVec 1), BitVec 32),
          data m c -∗ acc m c (List.finRange 8) -∗ Run c (kk w) Q)
        -∗ Run c (On (k0_part8 (F := F)) c u
            (k0_pay11 (VecWindow.window (xt m c) ![64 * (row 1 2 c).val, 0] S64x512.size (rows64_inb (row 1 2 c))) (yv m c)) >>= kk) Q) := by
  unfold On
  rw [k0_part8_eq_skeleton]
  unfold k0_part8_skel data
  simp only [Prog.lift, Prog.bind_op, Prog.bind_ret, Prog.pure_eq_ret]
  iintro ⟨⟨Ht, Hy⟩, Ha⟩ Hk
  iapply load_acc_any $$ Ha
  iintro %v0 Ha
  iapply (store_acc64 (row 1 2 c) (odd_row 1 c).2 (off14_eq c) rfl) $$ Ha
  iintro Ha
  iapply (load_window _ (rows128_inb (chunk 0 c)) (off15_eq c)) $$ Ht
  iintro Ht
  iapply load_all $$ Hy
  iintro Hy
  iapply load_acc_any $$ Ha
  iintro %v1 Ha
  iapply (store_acc128 (chunk 0 c) (even_chunk c).1 (off16_eq c) rfl) $$ Ha
  iintro Ha
  iapply Hk $$ [Ht Hy] [Ha]
  · iclose
  iapply (acc_all (every_row c)) $$ Ha

end Cert.Ring
-- ==== Proof.Hops.lean ====
/-
  The body's parts from the first arrival to the last transfer: on each hop, stream and segment a device waits for its
  neighbour's partial sum, adds its own block in place, and passes the sum on.
-/
module

public import proofs.«01_k».proof.Proof.Parts

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {K : Dev nD × Fin 25 → ℕ} {c : Dev nD} {α : Type}

/-- The accumulator with all its blocks final. -/
abbrev full (m : (ℓ : Loc nD τ sig) → Buf (Elt F) ℓ) (c : Dev nD) : sProp 𝕄 := acc m c (List.finRange 8)

theorem part9 {Q : α → sProp 𝕄} {u0 u1 u2 u3 u4 : BitVec 32} {b0 b1 : BitVec 1} {kk : BitVec 32 → Prog (TpuEff nD τ sig (Elt F) Λ₀ .tc) α} :
    iprop(recs m K ∗ awaited (F := F) 0 c ∗ owing c 8 ∗ full m c)
      ⊢ iprop((∀ w : BitVec 32, arrived 0 c -∗ owing c 8 -∗ full m c -∗ holds c (srcM 4) (sent m 4 c) -∗ Run c (kk w) Q)
        -∗ Run c (On (k0_part9 (F := F)) c u0 u1 u2 u3 b0 b1 u4 >>= kk) Q) := by
  unfold On
  rw [k0_part9_eq_skeleton]
  unfold k0_part9_skel
  simp only [Prog.lift, Prog.bind_op, Prog.bind_ret, Prog.pure_eq_ret]
  iintro ⟨#HR, Hw, HO, Ha⟩ Hk
  iapplyF (step_arrive (m := m) (K := K) 0 8 (by decide) rfl (credit_eq 0))
  iintro Hw Hs HO
  iapplyF (fold m 0 4 rfl rfl rfl List.mem_finRange (off17_eq c 0) (fun v u => shapeCast_shapeCast _ _ _))
  iintro Ha Hs
  iapply Hk $$ Hw HO Ha Hs

theorem part10 {Q : α → sProp 𝕄} {u0 u1 : BitVec 32} {kk : PUnit → Prog (TpuEff nD τ sig (Elt F) Λ₀ .tc) α} :
    iprop(recs m K ∗ ready (F := F) 4 c ∗ holds c (srcM 4) (sent m 4 c) ∗ awaited (F := F) 1 c ∗ owing c 8 ∗ full m c)
      ⊢ iprop((flying 4 c -∗ arrived 1 c -∗ owing c 7 -∗ full m c -∗ holds c (srcM 5) (sent m 5 c) -∗ Run c (kk ⟨⟩) Q)
        -∗ Run c (On (k0_part10 (F := F)) c u0 u1 >>= kk) Q) := by
  unfold On
  rw [k0_part10_eq_skeleton]
  unfold k0_part10_skel
  simp only [Prog.lift, Prog.bind_op, Prog.bind_ret, Prog.pure_eq_ret]
  iintro ⟨#HR, Hr, Hs, Hw, HO, Ha⟩ Hk
  iapplyF (step_send (m := m) (K := K) 4 7 rfl (dev7_eq c) rfl rfl rfl rfl)
  iintro Hf HO
  iapplyF (step_arrive (m := m) (K := K) 1 7 (by decide) rfl (credit_eq 1))
  iintro Hw Hs HO
  iapplyF (fold m 1 5 rfl rfl rfl List.mem_finRange (off18_eq c 0) (fun v u => shapeCast_shapeCast _ _ _))
  iintro Ha Hs
  iapply Hk $$ Hf Hw HO Ha Hs

theorem part11 {Q : α → sProp 𝕄} {u0 u1 u2 : BitVec 32} {kk : FVec F S64x1024 .f32 → Prog (TpuEff nD τ sig (Elt F) Λ₀ .tc) α} :
    iprop(recs m K ∗ ready (F := F) 5 c ∗ holds c (srcM 5) (sent m 5 c) ∗ awaited (F := F) 2 c ∗ owing c 7 ∗ full m c)
      ⊢ iprop((flying 5 c -∗ arrived 2 c -∗ owing c 6 -∗ full m c -∗ holds c (dstM 2) (came m 2 c) -∗ Run c (kk (part m 0 1 1 c)) Q)
        -∗ Run c (On (k0_part11 (F := F)) c u0 u1 u2 >>= kk) Q) := by
  unfold On
  rw [k0_part11_eq_skeleton]
  unfold k0_part11_skel
  simp only [Prog.lift, Prog.bind_op, Prog.bind_ret, Prog.pure_eq_ret]
  iintro ⟨#HR, Hr, Hs, Hw, HO, Ha⟩ Hk
  iapplyF (step_send (m := m) (K := K) 5 6 rfl (dev8_eq c) rfl rfl rfl rfl)
  iintro Hf HO
  iapplyF (step_arrive (m := m) (K := K) 2 6 (by decide) rfl (credit_eq 2))
  iintro Hw Hs HO
  iapplyF (fold_read m 2 rfl rfl List.mem_finRange (off19_eq c 0))
  iintro %v %u %hv Ha Hs
  rw [show k0_pay16 v u = part m 0 1 1 c from hv]
  iapply Hk $$ Hf Hw HO Ha Hs

theorem part12 {Q : α → sProp 𝕄} {u0 u1 u2 : BitVec 32} {kk : PUnit → Prog (TpuEff nD τ sig (Elt F) Λ₀ .tc) α} :
    iprop(recs m K ∗ holds c (dstM 2) (came m 2 c) ∗ ready (F := F) 6 c ∗ awaited (F := F) 3 c ∗ owing c 6)
      ⊢ iprop((flying 6 c -∗ arrived 3 c -∗ owing c 5 -∗ holds c (dstM 3) (came m 3 c) -∗ Run c (kk ⟨⟩) Q)
        -∗ Run c (On (k0_part12 (F := F)) c u0 u1 u2 (part m 0 1 1 c) >>= kk) Q) := by
  unfold On
  rw [k0_part12_eq_skeleton]
  unfold k0_part12_skel
  simp only [Prog.lift, Prog.bind_op, Prog.bind_ret, Prog.pure_eq_ret]
  iintro ⟨#HR, Hs, Hr, Hw, HO⟩ Hk
  iapply (fold_write m 2 6 rfl rfl rfl (shapeCast_shapeCast _ _ _)) $$ Hs
  iintro Hs
  iapplyF (step_send (m := m) (K := K) 6 5 rfl (dev9_eq c) rfl rfl rfl rfl)
  iintro Hf HO
  iapplyF (step_arrive (m := m) (K := K) 3 5 (by decide) rfl (credit_eq 3))
  iintro Hw Hs HO
  iapply Hk $$ Hf Hw HO Hs

theorem part13 {Q : α → sProp 𝕄} {u0 u1 : BitVec 32}
    {kk : (Σ' (_ : BitVec 32) (_ : BitVec 32) (_ : BitVec 1), BitVec 1) → Prog (TpuEff nD τ sig (Elt F) Λ₀ .tc) α} :
    iprop(recs m K ∗ holds c (dstM 3) (came m 3 c) ∗ ready (F := F) 7 c ∗ owing c 5 ∗ full m c)
      ⊢ iprop((∀ w : (Σ' (_ : BitVec 32) (_ : BitVec 32) (_ : BitVec 1), BitVec 1), flying 7 c -∗ owing c 4 -∗ full m c -∗ Run c (kk w) Q)
        -∗ Run c (On (k0_part13 (F := F)) c u0 u1 >>= kk) Q) := by
  unfold On
  rw [k0_part13_eq_skeleton]
  unfold k0_part13_skel
  simp only [Prog.lift, Prog.bind_op, Prog.bind_ret, Prog.pure_eq_ret]
  iintro ⟨#HR, Hs, Hr, HO, Ha⟩ Hk
  iapplyF (fold m 3 7 rfl rfl rfl List.mem_finRange (off20_eq c 0) (fun v u => shapeCast_shapeCast _ _ _))
  iintro Ha Hs
  iapplyF (step_send (m := m) (K := K) 7 4 rfl (dev10_eq c) rfl rfl rfl rfl)
  iintro Hf HO
  iapply Hk $$ Hf HO Ha

theorem part14 {Q : α → sProp 𝕄} {u0 u1 u2 u3 : BitVec 32} {b0 b1 : BitVec 1}
    {kk : (Σ' (_ : BitVec 32) (_ : BitVec 32), FVec F S64x1024 .f32) → Prog (TpuEff nD τ sig (Elt F) Λ₀ .tc) α} :
    iprop(recs m K ∗ awaited (F := F) 4 c ∗ owing c 4 ∗ full m c)
      ⊢ iprop((∀ w0 : BitVec 32, ∀ w1 : BitVec 32, arrived 4 c -∗ owing c 4 -∗ full m c -∗ holds c (dstM 4) (came m 4 c) -∗ Run c (kk ⟨w0, w1, part m 0 0 2 c⟩) Q)
        -∗ Run c (On (k0_part14 (F := F)) c u0 u1 u2 u3 b0 b1 >>= kk) Q) := by
  unfold On
  rw [k0_part14_eq_skeleton]
  unfold k0_part14_skel
  simp only [Prog.lift, Prog.bind_op, Prog.bind_ret, Prog.pure_eq_ret]
  iintro ⟨#HR, Hw, HO, Ha⟩ Hk
  iapplyF (step_arrive (m := m) (K := K) 4 4 (by decide) rfl (credit_eq 4))
  iintro Hw Hs HO
  iapplyF (fold_read m 4 rfl rfl List.mem_finRange (off17_eq c 1))
  iintro %v %u %hv Ha Hs
  rw [show k0_pay19 v u = part m 0 0 2 c from hv]
  iapply Hk $$ Hw HO Ha Hs

theorem part15 {Q : α → sProp 𝕄} {u0 u1 u2 : BitVec 32} {kk : PUnit → Prog (TpuEff nD τ sig (Elt F) Λ₀ .tc) α} :
    iprop(recs m K ∗ holds c (dstM 4) (came m 4 c) ∗ ready (F := F) 8 c ∗ awaited (F := F) 5 c ∗ owing c 4)
      ⊢ iprop((flying 8 c -∗ arrived 5 c -∗ owing c 3 -∗ holds c (dstM 5) (came m 5 c) -∗ Run c (kk ⟨⟩) Q)
        -∗ Run c (On (k0_part15 (F := F)) c u0 u1 u2 (part m 0 0 2 c) >>= kk) Q) := by
  unfold On
  rw [k0_part15_eq_skeleton]
  unfold k0_part15_skel
  simp only [Prog.lift, Prog.bind_op, Prog.bind_ret, Prog.pure_eq_ret]
  iintro ⟨#HR, Hs, Hr, Hw, HO⟩ Hk
  iapply (fold_write m 4 8 rfl rfl rfl (shapeCast_shapeCast _ _ _)) $$ Hs
  iintro Hs
  iapplyF (step_send (m := m) (K := K) 8 3 rfl (dev11_eq c) rfl rfl rfl rfl)
  iintro Hf HO
  iapplyF (step_arrive (m := m) (K := K) 5 3 (by decide) rfl (credit_eq 5))
  iintro Hw Hs HO
  iapply Hk $$ Hf Hw HO Hs

theorem part16 {Q : α → sProp 𝕄} {u0 u1 : BitVec 32} {kk : PUnit → Prog (TpuEff nD τ sig (Elt F) Λ₀ .tc) α} :
    iprop(recs m K ∗ holds c (dstM 5) (came m 5 c) ∗ ready (F := F) 9 c ∗ owing c 3 ∗ full m c)
      ⊢ iprop((flying 9 c -∗ owing c 2 -∗ full m c -∗ Run c (kk ⟨⟩) Q)
        -∗ Run c (On (k0_part16 (F := F)) c u0 u1 >>= kk) Q) := by
  unfold On
  rw [k0_part16_eq_skeleton]
  unfold k0_part16_skel
  simp only [Prog.lift, Prog.bind_op, Prog.bind_ret, Prog.pure_eq_ret]
  iintro ⟨#HR, Hs, Hr, HO, Ha⟩ Hk
  iapplyF (fold m 5 9 rfl rfl rfl List.mem_finRange (off18_eq c 1) (fun v u => shapeCast_shapeCast _ _ _))
  iintro Ha Hs
  iapplyF (step_send (m := m) (K := K) 9 2 rfl (dev12_eq c) rfl rfl rfl rfl)
  iintro Hf HO
  iapply Hk $$ Hf HO Ha

theorem part17 {Q : α → sProp 𝕄} {u0 u1 u2 : BitVec 32} {kk : (Σ' (_ : BitVec 32), BitVec 32) → Prog (TpuEff nD τ sig (Elt F) Λ₀ .tc) α} :
    iprop(recs m K ∗ awaited (F := F) 6 c ∗ ready (F := F) 10 c ∗ owing c 2 ∗ full m c)
      ⊢ iprop((∀ w : (Σ' (_ : BitVec 32), BitVec 32), arrived 6 c -∗ flying 10 c -∗ owing c 1 -∗ full m c -∗ Run c (kk w) Q)
        -∗ Run c (On (k0_part17 (F := F)) c u0 u1 u2 >>= kk) Q) := by
  unfold On
  rw [k0_part17_eq_skeleton]
  unfold k0_part17_skel
  simp only [Prog.lift, Prog.bind_op, Prog.bind_ret, Prog.pure_eq_ret]
  iintro ⟨#HR, Hw, Hr, HO, Ha⟩ Hk
  iapplyF (step_arrive (m := m) (K := K) 6 2 (by decide) rfl (credit_eq 6))
  iintro Hw Hs HO
  iapplyF (fold m 6 10 rfl rfl rfl List.mem_finRange (off19_eq c 1) (fun v u => shapeCast_shapeCast _ _ _))
  iintro Ha Hs
  iapplyF (step_send (m := m) (K := K) 10 1 rfl (dev13_eq c) rfl rfl rfl rfl)
  iintro Hf HO
  iapply Hk $$ Hw Hf HO Ha

theorem part18 {Q : α → sProp 𝕄} {u0 u1 u2 u3 : BitVec 32} {kk : BitVec 32 → Prog (TpuEff nD τ sig (Elt F) Λ₀ .tc) α} :
    iprop(recs m K ∗ awaited (F := F) 7 c ∗ ready (F := F) 11 c ∗ owing c 1 ∗ full m c)
      ⊢ iprop((∀ w : BitVec 32, arrived 7 c -∗ flying 11 c -∗ owing c 0 -∗ full m c -∗ Run c (kk w) Q)
        -∗ Run c (On (k0_part18 (F := F)) c u0 u1 u2 u3 >>= kk) Q) := by
  unfold On
  rw [k0_part18_eq_skeleton]
  unfold k0_part18_skel
  simp only [Prog.lift, Prog.bind_op, Prog.bind_ret, Prog.pure_eq_ret]
  iintro ⟨#HR, Hw, Hr, HO, Ha⟩ Hk
  iapplyF (step_arrive (m := m) (K := K) 7 1 (by decide) rfl (credit_eq 7))
  iintro Hw Hs HO
  iapplyF (fold m 7 11 rfl rfl rfl List.mem_finRange (off20_eq c 1) (fun v u => shapeCast_shapeCast _ _ _))
  iintro Ha Hs
  iapplyF (step_send (m := m) (K := K) 11 0 rfl (dev14_eq c) rfl rfl rfl rfl)
  iintro Hf HO
  iapply Hk $$ Hw Hf HO Ha

end Cert.Ring
-- ==== Proof.Ends.lean ====
/-
  The body's two ends: the opening barrier, where a device lends its landing slots to its neighbours and gets theirs, and
  the last hop, where the completed sums are written out and every transfer's departure is waited for.
-/
module

public import proofs.«01_k».proof.Proof.Hops

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {K : Dev nD × Fin 25 → ℕ} {c : Dev nD} {α : Type}

/-! ## The barrier -/

/-- What a device brings to the barrier: its place at its own cell, a duty at each neighbour's, the credit of the two signals. -/
def meeting (c : Dev nD) : sProp 𝕄 :=
  iprop(atPos ER (barC c) 0 ∅ 0 ∗ dutyTok ER (barC (prv c)) 0 true ∗ dutyTok ER (barC (nxt c)) 0 false ∗ cred (tallyAt (barC c) () 2))
/-- The whole debt at launch. -/
def owingAll (c : Dev nD) : sProp 𝕄 := iprop(∃ W, owes (c : Thread nD τ) (O₀ c) W)
/-- The barrier passed. -/
def met (c : Dev nD) : sProp 𝕄 := atPos ER (barC c) 1 ∅ 0

theorem part1 {Q : α → sProp 𝕄} {kk : (Σ' (_ : Dev nD) (_ : BitVec 32) (_ : BitVec 32), BitVec 32) → Prog (TpuEff nD τ sig (Elt F) Λ₀ .tc) α} :
    iprop(recs m K ∗ meeting (F := F) c ∗ owingAll (F := F) c ∗ landing (F := F) 0 c ∗ landing (F := F) 1 c)
      ⊢ iprop((∀ u : BitVec 32, ∀ v : BitVec 32, ∀ w : BitVec 32, met c -∗ owing c 12 -∗ landing (F := F) 0 (nxt c) -∗ landing (F := F) 1 (prv c) -∗ Run c (kk ⟨c, u, v, w⟩) Q)
        -∗ Run c (On (k0_part1 (F := F)) >>= kk) Q) := by
  unfold On
  rw [k0_part1_eq_skeleton]
  unfold k0_part1_skel meeting owingAll
  simp only [semSignalWord, semWaitWord, Prog.lift, Prog.bind_op, Prog.bind_ret, Prog.pure_eq_ret, wp_deviceId, dev1_eq, dev2_eq]
  iintro ⟨#HR, ⟨Hat, HtP, HtN, Hc⟩, ⟨%W, HO⟩, Hl0, Hl1⟩ Hk
  ihave ⟨HIp, Hrp⟩ := (recs_bar (prv c)) $$ HR
  ihave ⟨HIn, Hrn⟩ := (recs_bar (nxt c)) $$ HR
  ihave ⟨HI, -⟩ := (recs_bar c) $$ HR
  ihave Hlev := recs_lev $$ HR
  iapply (Rounds.wp_signal 𝒱₀ ER (Rd m) (c : Thread nD τ) none (dst := (prv c : Thread nD τ)) (κ := K (prv c, 0))
      (d := true) (by rw [duties_bar]; exact Finset.mem_univ _) (show (Rd m).amount (barC (prv c)) 0 true = _ from rfl) () (O₁ c) rfl) $$ [HIp HO HtP Hl0 Hrp]
  · isplitl [HIp]; · iexact HIp
    isplitl [HO]; · iexact HO
    isplitl [HtP]; · iexact HtP
    isplitl [Hl0]
    · rw [payload_bar, show fwd (strOf true) (prv c) = c from nxt_prv c]; iexact Hl0
    iexact Hrp
  iintro HO
  iapply (Rounds.wp_signal 𝒱₀ ER (Rd m) (c : Thread nD τ) none (dst := (nxt c : Thread nD τ)) (κ := K (nxt c, 0))
      (d := false) (by rw [duties_bar]; exact Finset.mem_univ _) (show (Rd m).amount (barC (nxt c)) 0 false = _ from rfl) () (due c 12) rfl) $$ [HIn HO HtN Hl1 Hrn]
  · isplitl [HIn]; · iexact HIn
    isplitl [HO]; · iexact HO
    isplitl [HtN]; · iexact HtN
    isplitl [Hl1]
    · rw [payload_bar, show fwd (strOf false) (nxt c) = c from prv_nxt c]; iexact Hl1
    iexact Hrn
  iintro HO
  iapply (Rounds.wp_wait_rest_token 𝒱₀ ER (Rd m) (c : Thread nD τ) none (κ := K (c, 0))
      (wpE_semWait_eq 𝒱₀ (c : Thread nD τ) none Set.univ) (Set.mem_univ _) () (O := due c 12) (W := W) (R := 0) (m := 0) (T := ∅)
      (by rw [expect_bar]; decide)) $$ [HI Hc HO Hat Hlev]
  · isplitl [HI]; · iexact HI
    isplitl [Hc]; · iexact Hc
    isplitl [HO]; · iexact HO
    isplitl [Hlev]; · iapply (mayWait_due c (.reg barS) 12 (le_refl _) (show (1 : ℕ) < 14 - 12 by decide)); iexact Hlev
    iexact Hat
  iintro ⟨HO, Hat, -, Hp⟩
  ihave Hp := (Entails.of_eq (rest_bar m c)) $$ Hp
  icases Hp with ⟨Hl0, Hl1⟩
  iapply Hk $$ [Hat] [HO] Hl0 Hl1
  · unfold met; iexact Hat
  unfold owing; iexists _; iexact HO

/-! ## The departures -/

/-- After the wait for departure `n`: the cell spent, the slot back. -/
def back (m : (ℓ : Loc nD τ sig) → Buf (Elt F) ℓ) (n : Fin 12) (c : Dev nD) : sProp 𝕄 := iprop(gone n c ∗ holds c (srcM n) (sent m n c))

theorem step_back {Q : α → sProp 𝕄} (n : Fin 12) {sS : DmaSem sig} (hsS : sS = sndS n)
    {src dst : Memref sig .tc .vmem S64x1024 .f32} (hdM : dst.view.dmaCredit = N) {hsrc : src.view.WordExact} {hdst : dst.view.WordExact}
    {k : PUnit → Prog (TpuEff nD τ sig (Elt F) Λ₀ .tc) α} :
    iprop(recs m K ∗ flying n c ∗ owing c 0)
      ⊢ iprop((back m n c -∗ owing c 0 -∗ Run c (k ⟨⟩) Q) -∗ Run c (.op (.waitDma2 sS src dst hsrc hdst) k) Q) := by
  iintro H Hk
  iapply (step_depart n hsS hdM) $$ H
  iintro Hg Hs HO
  iapply Hk $$ [Hg Hs] HO
  unfold back; iclose

/-! ## The last hop -/

theorem part20 {Q : α → sProp 𝕄} {u0 u1 u2 : BitVec 32} {kk : FVec F S64x1024 .f32 → Prog (TpuEff nD τ sig (Elt F) Λ₀ .tc) α} :
    iprop(recs m K ∗ awaited (F := F) 8 c ∗ awaited (F := F) 9 c ∗ owing c 0 ∗ full m c ∗ res m c [])
      ⊢ iprop((arrived 8 c -∗ holds c (dstM 8) (came m 8 c) -∗ arrived 9 c -∗ holds c (dstM 9) (came m 9 c) -∗ owing c 0 -∗ full m c -∗ res m c [(0, 0)]
          -∗ Run c (kk (part m 1 0 3 c)) Q)
        -∗ Run c (On (k0_part20 (F := F)) c u0 u1 u2 >>= kk) Q) := by
  unfold On
  rw [k0_part20_eq_skeleton]
  unfold k0_part20_skel
  simp only [Prog.lift, Prog.bind_op, Prog.bind_ret, Prog.pure_eq_ret]
  iintro ⟨#HR, Hw8, Hw9, HO, Ha, Ho⟩ Hk
  iapplyF (step_arrive (m := m) (K := K) 8 0 (by decide) rfl (credit_eq 8))
  iintro Hw8 Hs8 HO
  iapplyF (fold_read m 8 rfl rfl List.mem_finRange (off17_eq c 2))
  iintro %v %u %hv Ha Hs8
  iapply load_res_any $$ Ho
  iintro %x Ho
  iapply (store_res 0 0 rfl (show k0_pay24 v u = part m 0 0 3 c from hv)) $$ Ho
  iintro Ho
  iapplyF (step_arrive (m := m) (K := K) 9 0 (by decide) rfl (credit_eq 9))
  iintro Hw9 Hs9 HO
  iapplyF (fold_read m 9 rfl rfl List.mem_finRange (off18_eq c 2))
  iintro %v' %u' %hv' Ha Hs9
  iapply load_res_any $$ Ho
  iintro %x' Ho
  rw [show k0_pay25 v' u' = part m 1 0 3 c from hv']
  iapply Hk $$ Hw8 Hs8 Hw9 Hs9 HO Ha Ho

theorem part21 {Q : α → sProp 𝕄} {u0 u1 u2 : BitVec 32} {kk : PUnit → Prog (TpuEff nD τ sig (Elt F) Λ₀ .tc) α} :
    iprop(recs m K ∗ awaited (F := F) 10 c ∗ owing c 0 ∗ full m c ∗ res m c [(0, 0)])
      ⊢ iprop((arrived 10 c -∗ holds c (dstM 10) (came m 10 c) -∗ owing c 0 -∗ full m c -∗ res m c [(0, 1), (1, 0), (0, 0)] -∗ Run c (kk ⟨⟩) Q)
        -∗ Run c (On (k0_part21 (F := F)) c u0 u1 u2 (part m 1 0 3 c) >>= kk) Q) := by
  unfold On
  rw [k0_part21_eq_skeleton]
  unfold k0_part21_skel
  simp only [Prog.lift, Prog.bind_op, Prog.bind_ret, Prog.pure_eq_ret]
  iintro ⟨#HR, Hw, HO, Ha, Ho⟩ Hk
  iapply (store_res 1 0 rfl rfl) $$ Ho
  iintro Ho
  iapplyF (step_arrive (m := m) (K := K) 10 0 (by decide) rfl (credit_eq 10))
  iintro Hw Hs HO
  iapplyF (fold_read m 10 rfl rfl List.mem_finRange (off19_eq c 2))
  iintro %v %u %hv Ha Hs
  iapply load_res_any $$ Ho
  iintro %x Ho
  iapply (store_res 0 1 rfl (show k0_pay26 v u = part m 0 1 3 c from hv)) $$ Ho
  iintro Ho
  iapply Hk $$ Hw Hs HO Ha Ho

theorem part22 {Q : α → sProp 𝕄} {u0 : BitVec 32} {kk : PUnit → Prog (TpuEff nD τ sig (Elt F) Λ₀ .tc) α} :
    iprop(recs m K ∗ awaited (F := F) 11 c ∗ owing c 0 ∗ full m c ∗ res m c [(0, 1), (1, 0), (0, 0)] ∗ flying (F := F) 0 c)
      ⊢ iprop((arrived 11 c -∗ holds c (dstM 11) (came m 11 c) -∗ owing c 0 -∗ full m c -∗ res m c [(1, 1), (0, 1), (1, 0), (0, 0)]
          -∗ back m 0 c -∗ Run c (kk ⟨⟩) Q)
        -∗ Run c (On (k0_part22 (F := F)) c u0 >>= kk) Q) := by
  unfold On
  rw [k0_part22_eq_skeleton]
  unfold k0_part22_skel
  simp only [Prog.lift, Prog.bind_op, Prog.bind_ret, Prog.pure_eq_ret]
  iintro ⟨#HR, Hw, HO, Ha, Ho, Hf⟩ Hk
  iapplyF (step_arrive (m := m) (K := K) 11 0 (by decide) rfl (credit_eq 11))
  iintro Hw Hs HO
  iapplyF (fold_read m 11 rfl rfl List.mem_finRange (off20_eq c 2))
  iintro %v %u %hv Ha Hs
  iapply load_res_any $$ Ho
  iintro %x Ho
  iapply (store_res 1 1 rfl (show k0_pay27 v u = part m 1 1 3 c from hv)) $$ Ho
  iintro Ho
  iapplyF (step_back (m := m) (K := K) 0 rfl (credit_src 0))
  iintro Hb HO
  iapply Hk $$ Hw Hs HO Ha Ho Hb

theorem part23 {Q : α → sProp 𝕄} {kk : PUnit → Prog (TpuEff nD τ sig (Elt F) Λ₀ .tc) α} :
    iprop(recs m K ∗ flying (F := F) 1 c ∗ flying (F := F) 2 c ∗ flying (F := F) 3 c ∗ owing c 0)
      ⊢ iprop((back m 1 c -∗ back m 2 c -∗ back m 3 c -∗ owing c 0 -∗ Run c (kk ⟨⟩) Q) -∗ Run c (On (k0_part23 (F := F)) >>= kk) Q) := by
  unfold On
  rw [k0_part23_eq_skeleton]
  unfold k0_part23_skel
  simp only [Prog.lift, Prog.bind_op, Prog.bind_ret, Prog.pure_eq_ret]
  iintro ⟨#HR, H1, H2, H3, HO⟩ Hk
  iapplyF (step_back (m := m) (K := K) 1 rfl (credit_src 1)); iintro H1 HO
  iapplyF (step_back (m := m) (K := K) 2 rfl (credit_src 2)); iintro H2 HO
  iapplyF (step_back (m := m) (K := K) 3 rfl (credit_src 3)); iintro H3 HO
  iapply Hk $$ H1 H2 H3 HO

theorem part24 {Q : α → sProp 𝕄} {kk : PUnit → Prog (TpuEff nD τ sig (Elt F) Λ₀ .tc) α} :
    iprop(recs m K ∗ flying (F := F) 4 c ∗ flying (F := F) 5 c ∗ flying (F := F) 6 c ∗ owing c 0)
      ⊢ iprop((back m 4 c -∗ back m 5 c -∗ back m 6 c -∗ owing c 0 -∗ Run c (kk ⟨⟩) Q) -∗ Run c (On (k0_part24 (F := F)) >>= kk) Q) := by
  unfold On
  rw [k0_part24_eq_skeleton]
  unfold k0_part24_skel
  simp only [Prog.lift, Prog.bind_op, Prog.bind_ret, Prog.pure_eq_ret]
  iintro ⟨#HR, H1, H2, H3, HO⟩ Hk
  iapplyF (step_back (m := m) (K := K) 4 rfl (credit_src 4)); iintro H1 HO
  iapplyF (step_back (m := m) (K := K) 5 rfl (credit_src 5)); iintro H2 HO
  iapplyF (step_back (m := m) (K := K) 6 rfl (credit_src 6)); iintro H3 HO
  iapply Hk $$ H1 H2 H3 HO

theorem part25 {Q : α → sProp 𝕄} {kk : PUnit → Prog (TpuEff nD τ sig (Elt F) Λ₀ .tc) α} :
    iprop(recs m K ∗ flying (F := F) 7 c ∗ flying (F := F) 8 c ∗ flying (F := F) 9 c ∗ owing c 0)
      ⊢ iprop((back m 7 c -∗ back m 8 c -∗ back m 9 c -∗ owing c 0 -∗ Run c (kk ⟨⟩) Q) -∗ Run c (On (k0_part25 (F := F)) >>= kk) Q) := by
  unfold On
  rw [k0_part25_eq_skeleton]
  unfold k0_part25_skel
  simp only [Prog.lift, Prog.bind_op, Prog.bind_ret, Prog.pure_eq_ret]
  iintro ⟨#HR, H1, H2, H3, HO⟩ Hk
  iapplyF (step_back (m := m) (K := K) 7 rfl (credit_src 7)); iintro H1 HO
  iapplyF (step_back (m := m) (K := K) 8 rfl (credit_src 8)); iintro H2 HO
  iapplyF (step_back (m := m) (K := K) 9 rfl (credit_src 9)); iintro H3 HO
  iapply Hk $$ H1 H2 H3 HO

end Cert.Ring
-- ==== Proof.Body.lean ====
/-
  The whole body of one device, put together from its parts.
-/
module

public import proofs.«01_k».proof.Proof.Ends

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {K : Dev nD × Fin 25 → ℕ} {c : Dev nD} {α : Type}

/-- A family over the twelve transfers, written out. -/
theorem twelve (P : Fin 12 → sProp 𝕄) :
    bigSep Finset.univ P = iprop(P 0 ∗ P 1 ∗ P 2 ∗ P 3 ∗ P 4 ∗ P 5 ∗ P 6 ∗ P 7 ∗ P 8 ∗ P 9 ∗ P 10 ∗ P 11) := by
  rw [bigSep_univ_eq_bigSepL [0, 1, 2, 3, 4, 5, 6, 7, 8, 9, 10, 11] (by decide) (by decide)]
  simp only [bigSepL_cons_cons, bigSepL_singleton]
  rfl

/-- What a device holds for transfer `n` before it knows the slot the transfer lands in. -/
def prepared (n : Fin 12) (c : Dev nD) : sProp 𝕄 :=
  iprop(atPos ER (sndC n c) 0 ∅ 0 ∗ dutyTok ER (sndC n c) 0 false ∗ dutyTok ER (rcvC n (tgt n c)) 0 false)

/-- The neighbours' landing slots make every transfer ready. -/
theorem readies (c : Dev nD) : iprop(landing (F := F) 0 (nxt c) ∗ landing (F := F) 1 (prv c) ∗ bigSep Finset.univ (fun n : Fin 12 => prepared (F := F) n c))
    ⊢ bigSep Finset.univ (fun n : Fin 12 => ready (F := F) n c) := by
  have e : ∀ n : Fin 12, iprop(prepared (F := F) n c ∗ free (F := F) (tgt n c) (dstM n)) ⊢ ready n c := fun n => by
    unfold ready prepared; iintro ⟨⟨A, B, C⟩, D⟩; iclose
  have step : iprop(landing (F := F) 0 (nxt c) ∗ landing (F := F) 1 (prv c) ∗ bigSep Finset.univ (fun n : Fin 12 => prepared (F := F) n c))
      ⊢ iprop(bigSep Finset.univ (fun n : Fin 12 => prepared (F := F) n c) ∗ bigSep Finset.univ (fun n : Fin 12 => free (F := F) (tgt n c) (dstM n))) := by
    rw [twelve (fun n => free (F := F) (tgt n c) (dstM n))]
    unfold landing
    iintro ⟨⟨A0, A1, A2, A3, A4, A5⟩, ⟨B0, B1, B2, B3, B4, B5⟩, H⟩
    isplitl [H]; · iexact H
    isplitl [A0]; · iexact A0
    isplitl [B0]; · iexact B0
    isplitl [A1]; · iexact A1
    isplitl [B1]; · iexact B1
    isplitl [A2]; · iexact A2
    isplitl [B2]; · iexact B2
    isplitl [A3]; · iexact A3
    isplitl [B3]; · iexact B3
    isplitl [A4]; · iexact A4
    isplitl [B4]; · iexact B4
    isplitl [A5]; · iexact A5
    iexact B5
  exact step.trans ((Transfers.bigSep_sep_in _ _ _).trans (bigSep_mono fun n _ => e n))

/-- The slots the transfers of the first hop leave from. -/
def leaving (c : Dev nD) : sProp 𝕄 := iprop(free c (srcM 0) ∗ free c (srcM 1) ∗ free c (srcM 2) ∗ free c (srcM 3))
/-- The slots of the last arrivals. -/
def last (m : (ℓ : Loc nD τ sig) → Buf (Elt F) ℓ) (c : Dev nD) : sProp 𝕄 :=
  iprop(holds c (dstM 8) (came m 8 c) ∗ holds c (dstM 9) (came m 9 c) ∗ holds c (dstM 10) (came m 10 c) ∗ holds c (dstM 11) (came m 11 c))

/-- What the body starts from. -/
def before (m : (ℓ : Loc nD τ sig) → Buf (Elt F) ℓ) (c : Dev nD) : sProp 𝕄 :=
  iprop(meeting (F := F) c ∗ owingAll (F := F) c ∗ (landing (F := F) 0 c ∗ landing (F := F) 1 c ∗ leaving (F := F) c)
    ∗ (holds c xM (xv m c) ∗ holds c yM (yv m c) ∗ free (F := F) c tM ∗ acc m c [] ∗ res m c [])
    ∗ bigSep Finset.univ (fun n : Fin 12 => prepared (F := F) n c) ∗ bigSep Finset.univ (fun n : Fin 12 => awaited (F := F) n c))

/-- What it leaves: every semaphore's round over, the result complete, the staged operands as they were. -/
def after (m : (ℓ : Loc nD τ sig) → Buf (Elt F) ℓ) (c : Dev nD) : sProp 𝕄 :=
  iprop(met (F := F) c ∗ owing (F := F) c 0 ∗ last m c
    ∗ (holds c xM (xv m c) ∗ data m c ∗ full m c ∗ res m c [(1, 1), (0, 1), (1, 0), (0, 0)])
    ∗ bigSep Finset.univ (fun n : Fin 12 => back m n c) ∗ bigSep Finset.univ (fun n : Fin 12 => arrived (F := F) n c))

/-- Part nineteen only computes scalars. -/
theorem part19 {Q : α → sProp 𝕄} {u0 u1 u2 : BitVec 32} {kk : (Σ' (_ : BitVec 32), BitVec 32) → Prog (TpuEff nD τ sig (Elt F) Λ₀ .tc) α} :
    iprop(∀ w : (Σ' (_ : BitVec 32), BitVec 32), Run c (kk w) Q) ⊢ Run c (On (k0_part19 (F := F)) u0 u1 u2 >>= kk) Q := by
  unfold On
  rw [k0_part19_eq_skeleton]
  unfold k0_part19_skel
  simp only [Prog.bind_ret, Prog.pure_eq_ret]
  iintro H
  iapply H

/-- The body runs from `before` to `after`. -/
theorem body_run {Q : PUnit → sProp 𝕄} :
    iprop(recs m K ∗ before m c) ⊢ iprop((after m c -∗ Run c (Prog.ret ⟨⟩) Q) -∗ Run c (On (cc0_body (F := F))) Q) := by
  unfold On
  rw [cc0_body_eq_skeleton]
  unfold cc0_body_skel before leaving
  iintro ⟨#HR, Hmeet, HO, ⟨Hl0, Hl1, Hs0, Hs1, Hs2, Hs3⟩, ⟨Hx, Hy, Ht, Ha, Ho⟩, Hp, Hw⟩ Hk
  iapplyF (part1 (m := m) (K := K))
  iintro %u %v %w Hmet HO Hl0 Hl1
  ihave Hr := (readies (F := F) c) $$ [Hl0 Hl1 Hp]
  · iclose
  ihave Hr := (Entails.of_eq (twelve (fun n => ready (F := F) n c))) $$ Hr
  ihave Hw := (Entails.of_eq (twelve (fun n => awaited (F := F) n c))) $$ Hw
  icases Hr with ⟨R0, R1, R2, R3, R4, R5, R6, R7, R8, R9, R10, R11⟩
  icases Hw with ⟨W0, W1, W2, W3, W4, W5, W6, W7, W8, W9, W10, W11⟩
  iapplyF (part2 (m := m)); iintro %p1 %p2 Hx Hd
  iapplyF (part3 (m := m)); iintro %p3 Hd Ha Hs0 Hs1
  iapplyF (part4 (m := m) (K := K)); iintro Ha Hs2 Hs3 F0 HO
  iapplyF (part5 (m := m) (K := K)); iintro F1 F2 HO
  iapplyF (part6 (m := m) (K := K) (S := [row 1 0 c, row 0 0 c])); iintro %p6 F3 HO Hd Ha
  iapplyF (part7 (m := m) (S := ⟨2 * (chunk 2 c).val, by omega⟩ :: ⟨2 * (chunk 2 c).val + 1, by omega⟩ :: [row 1 0 c, row 0 0 c])); iintro Hd Ha
  iapplyF (part8 (m := m)); iintro %p8 Hd Ha
  iapplyF (part9 (m := m) (K := K)); iintro %p9 W0 HO Ha S4
  iapplyF (part10 (m := m) (K := K)); iintro F4 W1 HO Ha S5
  iapplyF (part11 (m := m) (K := K)); iintro F5 W2 HO Ha S6
  iapplyF (part12 (m := m) (K := K)); iintro F6 W3 HO S7
  iapplyF (part13 (m := m) (K := K)); iintro %p13 F7 HO Ha
  iapplyF (part14 (m := m) (K := K)); iintro %p14 %p14' W4 HO Ha S8
  iapplyF (part15 (m := m) (K := K)); iintro F8 W5 HO S9
  iapplyF (part16 (m := m) (K := K)); iintro F9 HO Ha
  iapplyF (part17 (m := m) (K := K)); iintro %p17 W6 F10 HO Ha
  iapplyF (part18 (m := m) (K := K)); iintro %p18 W7 F11 HO Ha
  iapply part19; iintro %p19
  iapplyF (part20 (m := m) (K := K)); iintro W8 D8 W9 D9 HO Ha Ho
  iapplyF (part21 (m := m) (K := K)); iintro W10 D10 HO Ha Ho
  iapplyF (part22 (m := m) (K := K)); iintro W11 D11 HO Ha Ho B0
  iapplyF (part23 (m := m) (K := K)); iintro B1 B2 B3 HO
  iapplyF (part24 (m := m) (K := K)); iintro B4 B5 B6 HO
  iapplyF (part25 (m := m) (K := K)); iintro B7 B8 B9 HO
  simp only [Prog.lift, Prog.bind_op, Prog.bind_ret, Prog.pure_eq_ret]
  iapplyF (step_back (m := m) (K := K) 10 rfl (credit_src 10)); iintro B10 HO
  iapplyF (step_back (m := m) (K := K) 11 rfl (credit_src 11)); iintro B11 HO
  iapply Hk
  unfold after last
  rw [twelve (fun n => back m n c), twelve (fun n => arrived (F := F) n c)]
  isplitl [Hmet]; · iexact Hmet
  isplitl [HO]; · iexact HO
  isplitl [D8 D9 D10 D11]; · iclose
  isplitl [Hx Hd Ha Ho]; · iclose
  isplitl [B0 B1 B2 B3 B4 B5 B6 B7 B8 B9 B10 B11]; · iclose
  iclose

end Cert.Ring
-- ==== Proof.Slots.lean ====
/-
  The communication buffers, whole and slot by slot.
-/
module

public import proofs.«01_k».proof.Proof.Body
public import Idealize.ShloMosaic.Lib.Ring
@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The elements of a slot, in the buffer. -/
theorem slot_set (M : Memref sig .tc .vmem S4x2x64x1024 .f32) (k : Fin 4) (g : Fin 2) :
    (slot M k g).view.set = (Rect.unit (s := S4x2x64x1024) ![k.val, g.val, 0, 0] S1x1x64x1024.size (slot_inb k g)).set.map M.view.emb := by
  rw [Memref.set_view_squeeze]; exact View.set_slice _ _

/-- Two slots share no element. -/
theorem slots_disjoint (M : Memref sig .tc .vmem S4x2x64x1024 .f32) (b b' : Fin 4 × Fin 2) (h : b ≠ b') :
    Disjoint (slot M b.1 b.2).view.set (slot M b'.1 b'.2).view.set := by
  rw [slot_set, slot_set, Finset.disjoint_map]
  by_cases h1 : b.1 = b'.1
  · have h2 : b.2.val ≠ b'.2.val := fun e => h (Prod.ext h1 (Fin.ext e))
    refine Rect.unit_disjoint 1 ?_
    show b.2.val + 1 ≤ b'.2.val ∨ b'.2.val + 1 ≤ b.2.val
    omega
  · have h2 : b.1.val ≠ b'.1.val := fun e => h1 (Fin.ext e)
    refine Rect.unit_disjoint 0 ?_
    show b.1.val + 1 ≤ b'.1.val ∨ b'.1.val + 1 ≤ b.1.val
    omega

/-- The slots make up the buffer. -/
theorem slots_cover (M : Memref sig .tc .vmem S4x2x64x1024 .f32) :
    (Finset.univ : Finset (Fin 4 × Fin 2)).biUnion (fun b => (slot M b.1 b.2).view.set) = M.view.set := by
  ext i
  simp only [Finset.mem_biUnion, Finset.mem_univ, true_and]
  constructor
  · rintro ⟨b, hb⟩
    rw [slot_set] at hb
    exact Finset.map_subset_map.mpr (Finset.subset_univ _) hb
  · intro hi
    obtain ⟨j, -, rfl⟩ := Finset.mem_map.mp hi
    refine ⟨(j 0, j 1), ?_⟩
    rw [slot_set]
    refine Finset.mem_map_of_mem _ (Rect.mem_set_unit.mpr fun a => ?_)
    have h2 : (j 2).val < 64 := (j 2).isLt
    have h3 : (j 3).val < 1024 := (j 3).isLt
    fin_cases a
    · show (j 0).val ≤ (j 0).val ∧ (j 0).val < (j 0).val + 1; omega
    · show (j 1).val ≤ (j 1).val ∧ (j 1).val < (j 1).val + 1; omega
    · show 0 ≤ (j 2).val ∧ (j 2).val < 0 + 64; omega
    · show 0 ≤ (j 3).val ∧ (j 3).val < 0 + 1024; omega

variable {c : Dev nD}

section Wins
variable {s t : Shape} (M : Memref sig .tc .vmem s .f32) {B : Type} [Fintype B] [DecidableEq B] (off : B → Fin s.rank → ℕ) {size : Fin s.rank → ℕ}
  {inb : ∀ b a, off b a + size a ≤ s.size a} {hq : ∀ b, (Rect.unit (off b) size (inb b)).shape.Squeezes t}
  (hd : ∀ b b', b ≠ b' → Disjoint (α := Finset (Idx (M.view.loc (c : Thread nD τ)))) (win M (off b) size (inb b) (hq b)).view.set (win M (off b') size (inb b') (hq b')).view.set)
  (hc : Finset.univ.biUnion (fun b => ((win M (off b) size (inb b) (hq b)).view.set : Finset (Idx (M.view.loc (c : Thread nD τ))))) = M.view.set)

include hd hc in
/-- A buffer taken apart into windows; -/
theorem wins_out (f : Buf (Elt F) (M.view.loc (c : Thread nD τ))) :
    (M.view.loc (c : Thread nD τ) ↦[M.view.set]{fullShare} f : sProp 𝕄) ⊢ bigSep Finset.univ (fun b => free (F := F) c (win M (off b) size (inb b) (hq b))) := by
  have e : ∀ b, (M.view.loc (c : Thread nD τ) ↦[((win M (off b) size (inb b) (hq b)).view.set : Finset (Idx (M.view.loc (c : Thread nD τ))))]{fullShare} f : sProp 𝕄)
      ⊢ free (F := F) c (win M (off b) size (inb b) (hq b)) := fun b => by
    unfold free; iintro H; iexists f; iexact H
  exact (Entails.of_eq (Ring.pointsTo_sub_blocks (ℓ := M.view.loc (c : Thread nD τ)) _ hd _ hc f)).trans (bigSep_mono fun b _ => e b)

include hd hc in
/-- and put together again. -/
theorem wins_in (f₀ : Buf (Elt F) (M.view.loc (c : Thread nD τ))) :
    bigSep Finset.univ (fun b => free (F := F) c (win M (off b) size (inb b) (hq b))) ⊢ (iprop(∃ f, M.view.loc (c : Thread nD τ) ↦[M.view.set]{fullShare} f) : sProp 𝕄) := by
  exact Ring.pointsTo_sub_blocks_join_exists (ℓ := M.view.loc (c : Thread nD τ)) _ hd _ hc f₀

end Wins

/-- A communication buffer taken apart into its slots. -/
theorem slots_out (M : Memref sig .tc .vmem S4x2x64x1024 .f32) (f : Buf (Elt F) (M.view.loc (c : Thread nD τ))) :
    (M.view.loc (c : Thread nD τ) ↦[M.view.set]{fullShare} f : sProp 𝕄) ⊢ bigSep Finset.univ (fun b : Fin 4 × Fin 2 => free (F := F) c (slot M b.1 b.2)) :=
  wins_out M (fun b : Fin 4 × Fin 2 => ![b.1.val, b.2.val, 0, 0]) (slots_disjoint M) (slots_cover M) f

/-- And put together again. -/
theorem slots_in (M : Memref sig .tc .vmem S4x2x64x1024 .f32) (f₀ : Buf (Elt F) (M.view.loc (c : Thread nD τ))) :
    bigSep Finset.univ (fun b : Fin 4 × Fin 2 => free (F := F) c (slot M b.1 b.2)) ⊢ (iprop(∃ f, M.view.loc (c : Thread nD τ) ↦[M.view.set]{fullShare} f) : sProp 𝕄) :=
  wins_in M (fun b : Fin 4 × Fin 2 => ![b.1.val, b.2.val, 0, 0]) (slots_disjoint M) (slots_cover M) f₀

/-- A family over the slots, written out. -/
theorem eight (P : Fin 4 × Fin 2 → sProp 𝕄) :
    bigSep Finset.univ P = iprop(P (0, 0) ∗ P (0, 1) ∗ P (1, 0) ∗ P (1, 1) ∗ P (2, 0) ∗ P (2, 1) ∗ P (3, 0) ∗ P (3, 1)) := by
  rw [bigSep_univ_eq_bigSepL [(0, 0), (0, 1), (1, 0), (1, 1), (2, 0), (2, 1), (3, 0), (3, 1)] (by decide) (by decide)]
  simp only [bigSepL_cons_cons, bigSepL_singleton]
  rfl

/-- A scratch buffer of the launch, held whole at some contents. -/
def scratch (c : Dev nD) (b : Ref sig .tc) : sProp 𝕄 := iprop(∃ f : Buf (Elt F) ((c : Thread nD τ).loc b), ((c : Thread nD τ).loc b) ↦{fullShare} f)

/-- The two communication buffers, whole and by slots. -/
theorem comm0_out : scratch (F := F) c cc0_scratch2 ⊢ bigSep Finset.univ (fun b : Fin 4 × Fin 2 => free (F := F) c (slot (comm 0) b.1 b.2)) := by
  unfold scratch
  iintro ⟨%f, H⟩
  iapply (slots_out (F := F) (comm 0) f)
  rw [show (comm 0).view.set = Finset.univ from View.set_whole cc0_scratch2]
  iexact H
theorem comm1_out : scratch (F := F) c cc0_scratch3 ⊢ bigSep Finset.univ (fun b : Fin 4 × Fin 2 => free (F := F) c (slot (comm 1) b.1 b.2)) := by
  unfold scratch
  iintro ⟨%f, H⟩
  iapply (slots_out (F := F) (comm 1) f)
  rw [show (comm 1).view.set = Finset.univ from View.set_whole cc0_scratch3]
  iexact H
theorem comm0_in : bigSep Finset.univ (fun b : Fin 4 × Fin 2 => free (F := F) c (slot (comm 0) b.1 b.2)) ⊢ scratch (F := F) c cc0_scratch2 := by
  have h := slots_in (F := F) (c := c) (comm 0) (fun _ => Classical.arbitrary _)
  rw [show (comm 0).view.set = Finset.univ from View.set_whole cc0_scratch2] at h
  exact h
theorem comm1_in : bigSep Finset.univ (fun b : Fin 4 × Fin 2 => free (F := F) c (slot (comm 1) b.1 b.2)) ⊢ scratch (F := F) c cc0_scratch3 := by
  have h := slots_in (F := F) (c := c) (comm 1) (fun _ => Classical.arbitrary _)
  rw [show (comm 1).view.set = Finset.univ from View.set_whole cc0_scratch3] at h
  exact h

/-- At the start, the two communication buffers are the slots the first hop leaves from and the landing slots. -/
theorem comms_out : iprop(scratch (F := F) c cc0_scratch2 ∗ scratch (F := F) c cc0_scratch3) ⊢ iprop(landing (F := F) 0 c ∗ landing (F := F) 1 c ∗ leaving (F := F) c) := by
  iintro ⟨HA, HB⟩
  ihave HA := (comm0_out.trans (Entails.of_eq (eight _))) $$ HA
  ihave HB := (comm1_out.trans (Entails.of_eq (eight _))) $$ HB
  icases HA with ⟨A0, A1, A2, A3, A4, A5, A6, A7⟩
  icases HB with ⟨B0, B1, B2, B3, B4, B5, B6, B7⟩
  unfold landing leaving
  isplitl [A0 A1 A2 A3 A4 A5]; · iclose
  isplitl [B0 B1 B2 B3 B4 B5]; · iclose
  isplitl [A6]; · iexact A6
  isplitl [B6]; · iexact B6
  isplitl [A7]; · iexact A7
  iexact B7

variable {m : (ℓ : Loc nD τ sig) → Buf (Elt F) ℓ}

/-- At the end every slot is back: twelve with their departures, four with the last arrivals. -/
theorem comms_in : iprop(last m c ∗ bigSep Finset.univ (fun n : Fin 12 => holds c (srcM n) (sent m n c)))
    ⊢ iprop(scratch (F := F) c cc0_scratch2 ∗ scratch (F := F) c cc0_scratch3) := by
  unfold last
  iintro ⟨⟨D0, D1, D2, D3⟩, H⟩
  ihave H := (show bigSep Finset.univ (fun n : Fin 12 => holds c (srcM n) (sent m n c)) ⊢ bigSep Finset.univ (fun n : Fin 12 => free (F := F) c (srcM n)) from
    bigSep_mono fun n _ => holds_free) $$ H
  ihave H := (Entails.of_eq (twelve (fun n => free (F := F) c (srcM n)))) $$ H
  icases H with ⟨S0, S1, S2, S3, S4, S5, S6, S7, S8, S9, S10, S11⟩
  ihave D0 := holds_free $$ D0
  ihave D1 := holds_free $$ D1
  ihave D2 := holds_free $$ D2
  ihave D3 := holds_free $$ D3
  isplitl [S0 S2 S4 S6 S8 S10 D0 D2]
  · iapply comm0_in
    rw [eight]
    isplitl [S4]; · iexact S4
    isplitl [S6]; · iexact S6
    isplitl [S8]; · iexact S8
    isplitl [S10]; · iexact S10
    isplitl [D0]; · iexact D0
    isplitl [D2]; · iexact D2
    isplitl [S0]; · iexact S0
    iexact S2
  · iapply comm1_in
    rw [eight]
    isplitl [S5]; · iexact S5
    isplitl [S7]; · iexact S7
    isplitl [S9]; · iexact S9
    isplitl [S11]; · iexact S11
    isplitl [D1]; · iexact D1
    isplitl [D3]; · iexact D3
    isplitl [S1]; · iexact S1
    iexact S3

end Cert.Ring
-- ==== Proof.Cells.lean ====
/-
  A device's semaphores, listed; and their closing at the end of the body.
-/
module

public import proofs.«01_k».proof.Proof.Slots
public import Idealize.ShloMosaic.Lib.Pipeline.Launch
public import Idealize.ShloMosaic.Lib.Pipeline.Kit
@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The list of the 25 cells -/

/-- The transfers' semaphores of a device: the departures', then the arrivals'. -/
def osem : Fin 12 ⊕ Fin 12 → SemLoc sig
  | .inl n => .dma (sndS n)
  | .inr n => .dma (rcvS n)

/-- All 25: the barrier's, the departures', the arrivals'. -/
def place : Unit ⊕ (Fin 12 ⊕ Fin 12) → Fin 25
  | .inl _ => 0
  | .inr (.inl n) => sndI n
  | .inr (.inr n) => rcvI n

theorem place_bijective : Function.Bijective place := by decide

/-- A family over the cells, by kind. -/
theorem by_kind (P : SemLoc sig → sProp 𝕄) :
    bigSep Finset.univ (fun i : Fin 25 => P (csem i))
      = iprop(P (.reg barS) ∗ bigSep Finset.univ (fun n : Fin 12 => P (.dma (sndS n))) ∗ bigSep Finset.univ (fun n : Fin 12 => P (.dma (rcvS n)))) := by
  rw [bigSep_univ_equiv (Equiv.ofBijective place place_bijective), bigSep_univ_sum, bigSep_univ_sum, bigSep_univ_of_subsingleton ()]
  have e1 : ∀ n : Fin 12, P (csem (sndI n)) = P (.dma (sndS n)) := fun n => by rw [csem_snd]
  have e2 : ∀ n : Fin 12, P (csem (rcvI n)) = P (.dma (rcvS n)) := fun n => by rw [csem_rcv]
  rw [← bigSep_congr (s := Finset.univ) (fun n _ => e1 n), ← bigSep_congr (s := Finset.univ) (fun n _ => e2 n)]
  rfl

theorem csem_injective : Function.Injective csem := by decide

/-! ## The counters at zero -/

/-- The transfers' counters of a device at zero. -/
def zeros (c : Dev nD) : sProp 𝕄 :=
  iprop(bigSep Finset.univ (fun n : Fin 12 => semVal (sndC n c) 0) ∗ bigSep Finset.univ (fun n : Fin 12 => semVal (rcvC n c) 0))

theorem ownSems0_eq (c : Dev nD) :
    (Pipeline.ownSems0 (Ix := Unit) (Name := ℕ) (U := UU) (Lvl := ℕ) (Val := Elt F) (τ := τ) osem c : sProp 𝕄) = zeros c := by
  unfold Pipeline.ownSems0 zeros
  rw [bigSep_univ_sum]; rfl

theorem unscopedSems0_eq (c : Dev nD) : (unscopedSems0 c : sProp 𝕄) = semVal (barC c) 0 := by
  unfold unscopedSems0; rw [bigSep_eq_bigSepL_of_eq [SemLoc.reg barS] (by decide) (by decide)]; rfl

theorem ownSemFacts : Pipeline.OwnSemFacts cfg0.spec osem := by decide

/-! ## Closing the cells -/

variable {m : (ℓ : Loc nD τ sig) → Buf (Elt F) ℓ} {K : Dev nD × Fin 25 → ℕ} {c : Dev nD}

theorem close_bar : iprop(recs m K ∗ met (F := F) c) ⊢ |={Set.univ}=> semVal (barC c) 0 := by
  unfold met
  iintro ⟨#HR, Hat⟩
  ihave ⟨HI, -⟩ := (recs_bar c) $$ HR
  iapply (Rounds.cell_close ER (Rd m) (Set.mem_univ (K (c, 0))) (fun h => h) (R := 1) (duties_later m (barC c))) $$ [HI Hat]
  isplitl [HI]; · iexact HI
  iexact Hat
theorem close_snd (n : Fin 12) : iprop(recs m K ∗ gone (F := F) n c) ⊢ |={Set.univ}=> semVal (sndC n c) 0 := by
  unfold gone
  iintro ⟨#HR, Hat⟩
  ihave ⟨HI, -⟩ := (recs_snd n c) $$ HR
  iapply (Rounds.cell_close ER (Rd m) (Set.mem_univ (K (c, sndI n))) (fun h => h) (R := 1) (duties_later m (sndC n c))) $$ [HI Hat]
  isplitl [HI]; · iexact HI
  iexact Hat
theorem close_rcv (n : Fin 12) : iprop(recs m K ∗ arrived (F := F) n c) ⊢ |={Set.univ}=> semVal (rcvC n c) 0 := by
  unfold arrived
  iintro ⟨#HR, Hat⟩
  ihave ⟨HI, -⟩ := (recs_rcv n c) $$ HR
  iapply (Rounds.cell_close ER (Rd m) (Set.mem_univ (K (c, rcvI n))) (fun h => h) (R := 1) (duties_later m (rcvC n c))) $$ [HI Hat]
  isplitl [HI]; · iexact HI
  iexact Hat

/-- Every cell of a device closes once its round is over. -/
theorem close_all : iprop(recs m K ∗ bigSep Finset.univ (fun n : Fin 12 => gone (F := F) n c) ∗ bigSep Finset.univ (fun n : Fin 12 => arrived (F := F) n c))
    ⊢ |={Set.univ}=> zeros (F := F) c := by
  have hs := (Transfers.bigSep_mono_pers (Finset.univ : Finset (Fin 12)) (recs m K) (fun n => gone (F := F) n c) _ (fun n _ => close_snd (m := m) (K := K) (c := c) n)).trans (bigSep_fupd _ _)
  have hv := (Transfers.bigSep_mono_pers (Finset.univ : Finset (Fin 12)) (recs m K) (fun n => arrived (F := F) n c) _ (fun n _ => close_rcv (m := m) (K := K) (c := c) n)).trans (bigSep_fupd _ _)
  unfold zeros
  iintro ⟨#HR, HS, HV⟩
  imod hs $$ [HS] with HS
  · isplitr; · iexact HR
    iexact HS
  imod hv $$ [HV] with HV
  · isplitr; · iexact HR
    iexact HV
  imodintro
  isplitl [HS]; · iexact HS
  iexact HV

end Cert.Ring
-- ==== Proof.Obligation.lean ====
/-
  The pipeline's account of the body: what it starts from, what it leaves, and that it does.
-/
module

public import proofs.«01_k».proof.Proof.Cells
public import proofs.«01_k».proof.Proof.Gen.KernelIdeal.Frame
@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Whole buffers -/

/-- A staging buffer held whole at `X`, as the pipeline states it. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

section Whole
variable {c : Dev nD}

/-- A buffer seen whole is the buffer. -/
theorem whole_pts (b : Ref sig .tc) (X : b.ty.Contents (Elt F)) :
    ((Memref.whole b).view.loc (c : Thread nD τ) ↦[(Memref.whole b).view.set]{fullShare} (Memref.whole b).view.rep X : sProp 𝕄)
      = (((c : Thread nD τ).loc b) ↦{fullShare} X) := by
  rw [show (Memref.whole b).view.rep X = X from View.read_rep (View.whole b) X, show (Memref.whole b).view.set = Finset.univ from View.set_whole b]

theorem stg_eq (b : Ref sig .tc) (X : b.ty.Contents (Elt F)) : stg c b X = (((c : Thread nD τ).loc b) ↦{fullShare} X) := by
  have h1 : stg c b X ⊢ (((c : Thread nD τ).loc b) ↦{fullShare} X : sProp 𝕄) := by
    iintro ⟨%f, %h, H⟩
    subst h
    iexact H
  have h2 : (((c : Thread nD τ).loc b) ↦{fullShare} X : sProp 𝕄) ⊢ stg c b X := by
    iintro H
    iexists X
    isplitr; · ipureintro; rfl
    iexact H
  exact Entails.antisymm h1 h2

theorem x_eq (X : Vec F S512x512 .f32) : stg c cc0_stg0_0 X = holds c xM X := (stg_eq cc0_stg0_0 X).trans (whole_pts cc0_stg0_0 X).symm
theorem y_eq (X : Vec F S512x2048 .f32) : stg c cc0_stg1_0 X = holds c yM X := (stg_eq cc0_stg1_0 X).trans (whole_pts cc0_stg1_0 X).symm
theorem o_eq (X : Vec F S128x2048 .f32) : stg c cc0_stg2_0 X = holds c oM X := (stg_eq cc0_stg2_0 X).trans (whole_pts cc0_stg2_0 X).symm
theorem t_eq (X : Vec F S512x512 .f32) : (((c : Thread nD τ).loc cc0_scratch0) ↦{fullShare} X : sProp 𝕄) = holds c tM X := (whole_pts cc0_scratch0 X).symm
theorem a_eq (X : Vec F S512x2048 .f32) : (((c : Thread nD τ).loc cc0_scratch1) ↦{fullShare} X : sProp 𝕄) = holds c aM X := (whole_pts cc0_scratch1 X).symm

theorem res_in (X : Vec F S128x2048 .f32) : stg c cc0_stg2_0 X ⊢ res m c [] := by
  rw [o_eq]
  unfold res
  iintro H
  iexists X
  isplitr; · ipureintro; exact fun p hp => absurd hp List.not_mem_nil
  iexact H
theorem res_out : res m c [(1, 1), (0, 1), (1, 0), (0, 0)] ⊢ stg c cc0_stg2_0 (resV m c) := by
  unfold res
  rw [o_eq]
  iintro ⟨%f, %h, H⟩
  have e : f = resV m c := blocks_all fun p => h p (by revert p; decide)
  rw [e]
  iexact H
theorem xt_in : scratch (F := F) c cc0_scratch0 ⊢ free (F := F) c tM := by
  have e : ∀ X : Vec F S512x512 .f32, (((c : Thread nD τ).loc cc0_scratch0) ↦{fullShare} X : sProp 𝕄) ⊢ free (F := F) c tM := fun X => by
    rw [t_eq]; exact holds_free
  unfold scratch
  iintro ⟨%f, H⟩
  iapply (e f)
  iexact H
theorem xt_out (X : Vec F S512x512 .f32) : holds c tM X ⊢ scratch (F := F) c cc0_scratch0 := by
  rw [← t_eq]
  unfold scratch
  iintro H
  iexists X
  iexact H
theorem acc_in : scratch (F := F) c cc0_scratch1 ⊢ acc m c [] := by
  have e : ∀ X : Vec F S512x2048 .f32, (((c : Thread nD τ).loc cc0_scratch1) ↦{fullShare} X : sProp 𝕄) ⊢ acc m c [] := fun X => by
    rw [a_eq]
    unfold acc
    iintro H
    iexists X
    isplitr; · ipureintro; exact fun p hp => absurd hp List.not_mem_nil
    iexact H
  unfold scratch
  iintro ⟨%f, H⟩
  iapply (e f)
  iexact H
theorem acc_out (S : List (Fin 8)) : acc m c S ⊢ scratch (F := F) c cc0_scratch1 := by
  have e : ∀ X : Vec F S512x2048 .f32, holds c aM X ⊢ scratch (F := F) c cc0_scratch1 := fun X => by
    rw [← a_eq]
    unfold scratch
    iintro H
    iexists X
    iexact H
  unfold acc
  iintro ⟨%f, -, H⟩
  iapply (e f)
  iexact H

end Whole

/-! ## The pipeline's data -/

/-- What the synchronisation gives a device's body at the start. -/
def start (c : Dev nD) : sProp 𝕄 :=
  iprop(∃ K : Dev nD × Fin 25 → ℕ, recs m K ∗ meeting (F := F) c ∗ bigSep Finset.univ (fun n : Fin 12 => prepared (F := F) n c)
    ∗ bigSep Finset.univ (fun n : Fin 12 => awaited (F := F) n c))
/-- The four scratch buffers of the kernel. -/
def scratches (c : Dev nD) : sProp 𝕄 :=
  iprop(scratch (F := F) c cc0_scratch0 ∗ scratch (F := F) c cc0_scratch1 ∗ scratch (F := F) c cc0_scratch2 ∗ scratch (F := F) c cc0_scratch3)

def Φ₀ (c : Dev nD) : sProp 𝕄 := iprop(start m c ∗ scratches (F := F) c)
def Φ₁ (c : Dev nD) : sProp 𝕄 := iprop(scratches (F := F) c ∗ semVal (barC c) 0 ∗ zeros (F := F) c)

/-- The operands stay staged, the result is `resV`; the debt is the whole one before the body, none after it. -/
def dats (_ : Fin 1) (c : Dev nD) : Pipeline.Dat τ (Elt F) Unit ℕ UU ℕ cfg0 c where
  A w := m ((cfg0.win w).arr.view.loc (c : Thread nD τ))
  after w _ := match w with
    | ⟨0, _⟩ => xv m c
    | ⟨1, _⟩ => yv m c
    | ⟨2, _⟩ => resV m c
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## The body -/

def bodyPre (c : Dev nD) : sProp 𝕄 :=
  iprop(Φ₀ m c ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))
def bodyPost (c : Dev nD) : sProp 𝕄 :=
  iprop(Φ₁ (F := F) c ∗ (dats m 0 c).owesAt () t0_0.succ ∗ stg c cc0_stg0_0 (xv m c) ∗ stg c cc0_stg1_0 (yv m c) ∗ stg c cc0_stg2_0 (resV m c))

/-- The first two windows are fetched before the body. -/
theorem before_x (c : Dev nD) (d) : (dats m 0 c).before (0 : Fin 3) t0_0 d = xv m c := by
  unfold Pipeline.Dat.before; rw [if_pos (fetch0_0 t0_0)]; rfl
theorem before_y (c : Dev nD) (d) : (dats m 0 c).before (1 : Fin 3) t0_0 d = yv m c := by
  unfold Pipeline.Dat.before; rw [if_pos (fetch0_1 t0_0)]; rfl

/-- What the pipeline hands the body is what the body starts from. -/
theorem pre_before (c : Dev nD) : bodyPre m c ⊢ iprop(∃ K : Dev nD × Fin 25 → ℕ, recs m K ∗ before m c) := by
  unfold bodyPre Φ₀ start scratches before owingAll Pipeline.Dat.owesAt Pipeline.owesWithin
  iintro ⟨⟨⟨%K, #HR, Hmeet, Hp, Hw⟩, H0, H1, H23⟩, ⟨%W, %hW, HO⟩, ⟨%d0, Hx⟩, ⟨%d1, Hy⟩, ⟨%d2, Ho⟩⟩
  ihave Hx := (Entails.of_eq (congrArg (stg c cc0_stg0_0) (before_x m c d0))) $$ Hx
  ihave Hy := (Entails.of_eq (congrArg (stg c cc0_stg1_0) (before_y m c d1))) $$ Hy
  iexists K
  isplitr; · iexact HR
  isplitl [Hmeet]; · iexact Hmeet
  isplitl [HO]; · iexists W; iexact HO
  isplitl [H23]; · iapply comms_out; iexact H23
  isplitl [Hx Hy Ho H0 H1]
  · isplitl [Hx]; · rw [← x_eq]; iexact Hx
    isplitl [Hy]; · rw [← y_eq]; iexact Hy
    isplitl [H0]; · iapply xt_in; iexact H0
    isplitl [H1]; · iapply acc_in; iexact H1
    iapply (res_in m); iexact Ho
  isplitl [Hp]; · iexact Hp
  iexact Hw

/-- What the body leaves is what the pipeline takes back, once the cells are closed. -/
theorem after_post {K : Dev nD × Fin 25 → ℕ} (c : Dev nD) : iprop(recs m K ∗ after m c) ⊢ |={Set.univ}=> bodyPost m c := by
  have hb : bigSep Finset.univ (fun n : Fin 12 => back m n c)
      = iprop(bigSep Finset.univ (fun n : Fin 12 => gone (F := F) n c) ∗ bigSep Finset.univ (fun n : Fin 12 => holds c (srcM n) (sent m n c))) := by
    unfold back; exact bigSep_sep' _ _ _
  unfold after data full owing
  rw [hb]
  iintro ⟨#HR, Hm, ⟨%W, HO⟩, Hl, ⟨Hx, ⟨Ht, Hy⟩, Ha, Ho⟩, ⟨Hg, Hs⟩, Hv⟩
  imod (close_bar (m := m) (K := K) (c := c)) $$ [Hm] with Hb
  · isplitr; · iexact HR
    iexact Hm
  imod (close_all (m := m) (K := K) (c := c)) $$ [Hg Hv] with Hz
  · isplitr; · iexact HR
    isplitl [Hg]; · iexact Hg
    iexact Hv
  imodintro
  ihave H23 := (comms_in (m := m) (c := c)) $$ [Hl Hs]
  · isplitl [Hl]; · iexact Hl
    iexact Hs
  unfold bodyPost Φ₁ scratches Pipeline.Dat.owesAt Pipeline.owesWithin
  isplitl [Hb Hz Ht Ha H23]
  · isplitl [Ht Ha H23]
    · isplitl [Ht]; · iapply xt_out; iexact Ht
      isplitl [Ha]; · iapply (acc_out m); iexact Ha
      iexact H23
    isplitl [Hb]; · iexact Hb
    iexact Hz
  isplitl [HO]
  · iexists W
    isplitr; · ipureintro; exact fun _ _ => Or.inl trivial
    iexact HO
  isplitl [Hx]; · rw [x_eq]; iexact Hx
  isplitl [Hy]; · rw [y_eq]; iexact Hy
  iapply (res_out m); iexact Ho

/-- The body runs from what the pipeline hands it to what the pipeline takes back. -/
theorem body_sound (c : Dev nD) : bodyPre m c ⊢ Run c (On (cc0_body (F := F))) (fun _ => bodyPost m c) := by
  refine (pre_before m c).trans ?_
  iintro ⟨%K, #HR, Hb⟩
  iapply (body_run (m := m) (K := K)) $$ [Hb]
  · isplitr; · iexact HR
    iexact Hb
  iintro Ha
  unfold Run
  rw [wp_ret]
  iapply (after_post m (K := K) c)
  isplitr; · iexact HR
  iexact Ha

theorem body_obligation (c : Dev nD) : Pipeline.BodyObligation (dats m 0 c) (defs₀ (F := F)) 𝒱₀ () Set.univ := fun t => by
  rw [fin_N0 t]
  rw [bigSep_W0, bigSep_W0]
  simp only [owns_whole_eq]
  exact body_sound m c

end Cert.Ring
-- ==== Proof.Deal.lean ====
/-
  The synchronisation's resources at launch: every device gets its places at its own cells and the duties it pays at the
  cells of its neighbours.
-/
module

public import proofs.«01_k».proof.Proof.Obligation
@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The launch element -/

theorem kcell_injective : Function.Injective (kcell : Dev nD × Fin 25 → GSem nD τ sig) := fun a b h => by
  have h1 : a.1 = b.1 := congrArg (fun g : GSem nD τ sig => g.1.1) h
  have h2 : csem a.2 = csem b.2 := congrArg Prod.snd h
  exact Prod.ext h1 (csem_injective h2)

def ringCells : Finset (GSem nD τ sig) := Finset.univ.map ⟨kcell, kcell_injective⟩

/-- The duties of a device's own cells: `true` of its barrier, and `false` of every cell. -/
def dutyAt (p : Dev nD × (Unit ⊕ Fin 25)) : GSem nD τ sig × ℕ × Bool :=
  match p.2 with
  | .inl _ => (barC p.1, 0, true)
  | .inr i => (kcell (p.1, i), 0, false)

theorem dutyAt_injective : Function.Injective dutyAt := by
  rintro ⟨a, i⟩ ⟨b, j⟩ h
  have hd : a = b := by
    have := congrArg (fun x : GSem nD τ sig × ℕ × Bool => x.1.1.1) h
    rcases i with i | i <;> rcases j with j | j <;> exact this
  subst hd
  rcases i with i | i <;> rcases j with j | j
  · rfl
  · exact absurd (congrArg (fun x : GSem nD τ sig × ℕ × Bool => x.2.2) h) (show ¬ (true = false) by decide)
  · exact absurd (congrArg (fun x : GSem nD τ sig × ℕ × Bool => x.2.2) h) (show ¬ (false = true) by decide)
  · have h2 : kcell (a, i) = kcell (a, j) := congrArg (fun x : GSem nD τ sig × ℕ × Bool => x.1) h
    have h3 : (a, i) = (a, j) := kcell_injective h2
    rw [(Prod.mk.inj h3).2]

def ringToks : Finset (GSem nD τ sig × ℕ × Bool) := Finset.univ.map ⟨dutyAt, dutyAt_injective⟩

def u₀ : UU := (initOf (Pipeline.cells cfgs cellOf_inj) (Pipeline.launchToks cfgs cellOf_inj), initOf ringCells ringToks)

/-! ## What it deals -/

/-- The duties of device `c`'s own cells. -/
def ownToks (c : Dev nD) : sProp 𝕄 :=
  iprop(dutyTok ER (barC c) 0 true ∗ dutyTok ER (barC c) 0 false
    ∗ bigSep Finset.univ (fun n : Fin 12 => dutyTok ER (sndC n c) 0 false) ∗ bigSep Finset.univ (fun n : Fin 12 => dutyTok ER (rcvC n c) 0 false))
/-- The duties device `c` pays. -/
def payToks (c : Dev nD) : sProp 𝕄 :=
  iprop(dutyTok ER (barC (prv c)) 0 true ∗ dutyTok ER (barC (nxt c)) 0 false
    ∗ bigSep Finset.univ (fun n : Fin 12 => dutyTok ER (sndC n c) 0 false) ∗ bigSep Finset.univ (fun n : Fin 12 => dutyTok ER (rcvC n (tgt n c)) 0 false))

/-- Device `c`'s share of the launch element. -/
def G (c : Dev nD) : sProp 𝕄 :=
  iprop(bigSep Finset.univ (fun i : Fin 25 => roundState ER (Rd m) (kcell (c, i)) 0)
    ∗ bigSep Finset.univ (fun i : Fin 25 => atPos ER (kcell (c, i)) 0 ∅ 0) ∗ bigSep Finset.univ (fun i : Fin 25 => reached ER (kcell (c, i)) 0) ∗ ownToks c)
/-- Every cell's invariant, and that it has reached its round. -/
def shared (K : Dev nD × Fin 25 → ℕ) : sProp 𝕄 :=
  bigSep Finset.univ (fun ck : Dev nD × Fin 25 => iprop(cellInv ER (Rd m) (K ck) (kcell ck) ∗ reached ER (kcell ck) 0))
/-- What is made of it. -/
def G' (c : Dev nD) : sProp 𝕄 :=
  iprop(∃ K : Dev nD × Fin 25 → ℕ, shared m K ∗ bigSep Finset.univ (fun i : Fin 25 => atPos ER (kcell (c, i)) 0 ∅ 0) ∗ payToks c)

theorem over_cells (P : GSem nD τ sig → sProp 𝕄) :
    bigSep ringCells P = bigSep Finset.univ (fun c : Dev nD => bigSep Finset.univ (fun i : Fin 25 => P (kcell (c, i)))) := by
  unfold ringCells; rw [bigSep_map, bigSep_univ_prod]; rfl
theorem over_toks (P : GSem nD τ sig × ℕ × Bool → sProp 𝕄) :
    bigSep ringToks P = bigSep Finset.univ (fun c : Dev nD => iprop(P (barC c, 0, true) ∗ bigSep Finset.univ (fun i : Fin 25 => P (kcell (c, i), 0, false)))) := by
  unfold ringToks; rw [bigSep_map, bigSep_univ_prod]
  refine bigSep_congr fun c _ => ?_
  rw [bigSep_univ_sum, bigSep_univ_of_subsingleton ()]; rfl
theorem toks_kind (c : Dev nD) : (iprop(dutyTok ER (barC c) 0 true ∗ bigSep Finset.univ (fun i : Fin 25 => dutyTok ER (kcell (c, i)) 0 false)) : sProp 𝕄) = ownToks c := by
  unfold ownToks
  rw [← by_kind (F := F) (fun s => dutyTok ER ((c : Thread nD τ), s) 0 false)]

theorem fund_ring : BI.own (ER (initOf ringCells ringToks)) ⊢ (|==> bigSep Finset.univ (G m) : sProp 𝕄) := by
  have hT : bigSep ringToks (fun x => (dutyTok ER x.1 x.2.1 x.2.2 : sProp 𝕄)) = bigSep Finset.univ fun c : Dev nD => ownToks c :=
    (over_toks _).trans (bigSep_congr fun c _ => toks_kind c)
  iintro H
  imod (Rounds.fund ER (Rd m) ringCells ringToks) $$ H with ⟨Hs, Hr, Ha, Ht⟩
  imodintro
  ihave Hs := (Entails.of_eq (over_cells fun g => roundState ER (Rd m) g 0)) $$ Hs
  ihave Hr := (Entails.of_eq (over_cells fun g => reached ER g 0)) $$ Hr
  ihave Ha := (Entails.of_eq (over_cells fun g => atPos ER g 0 ∅ 0)) $$ Ha
  ihave Ht := (Entails.of_eq hT) $$ Ht
  unfold G
  simp only [bigSep_sep']
  isplitl [Hs]; · iexact Hs
  isplitl [Ha]; · iexact Ha
  isplitl [Hr]; · iexact Hr
  iexact Ht

/-! ## The duties go round the ring -/

/-- The devices as the targets of transfer `n`. -/
def turnBy (n : Fin 12) : Dev nD ≃ Dev nD := ⟨tgt n, frm n, bwd_fwd (str n), fwd_bwd (str n)⟩

theorem rcv_round (P : Fin 12 → Dev nD → sProp 𝕄) :
    bigSep Finset.univ (fun c : Dev nD => bigSep Finset.univ (fun n : Fin 12 => P n c)) = bigSep Finset.univ (fun c : Dev nD => bigSep Finset.univ (fun n : Fin 12 => P n (tgt n c))) := by
  rw [bigSep_univ_comm (fun (c : Dev nD) n => P n c), bigSep_univ_comm (fun (c : Dev nD) n => P n (tgt n c))]
  exact bigSep_congr fun n _ => bigSep_univ_equiv (turnBy n) (P n)

theorem toks_round : bigSep Finset.univ (fun c : Dev nD => ownToks (F := F) c) ⊢ bigSep Finset.univ (fun c : Dev nD => payToks (F := F) c) := by
  unfold ownToks payToks
  simp only [bigSep_sep']
  rw [bigSep_univ_equiv turn.symm (fun c : Dev nD => (dutyTok ER (barC c) 0 true : sProp 𝕄)),
    bigSep_univ_equiv turn (fun c : Dev nD => (dutyTok ER (barC c) 0 false : sProp 𝕄)),
    rcv_round (F := F) (fun n c => dutyTok ER (rcvC n c) 0 false)]
  exact BI.Entails.refl _

/-! ## The cells' invariants are allocated -/

theorem sems_kind (c : Dev nD) :
    iprop(Pipeline.ownSems0 (Ix := Unit) (Name := ℕ) (U := UU) (Lvl := ℕ) (Val := Elt F) (τ := τ) osem c ∗ unscopedSems0 c)
      ⊢ (bigSep Finset.univ (fun i : Fin 25 => semVal (kcell (c, i)) 0) : sProp 𝕄) := by
  have e := by_kind (F := F) (fun s => semVal ((c : Thread nD τ), s) 0)
  rw [ownSems0_eq, unscopedSems0_eq]
  rw [e]
  unfold zeros
  iintro ⟨⟨HS, HV⟩, HB⟩
  isplitl [HB]; · iexact HB
  isplitl [HS]; · iexact HS
  iexact HV

/-- One device's cells get their invariants. -/
def opened (c : Dev nD) : sProp 𝕄 :=
  iprop(bigSep Finset.univ (fun i : Fin 25 => iprop(∃ κ : ℕ, cellInv ER (Rd m) κ (kcell (c, i))))
    ∗ bigSep Finset.univ (fun i : Fin 25 => atPos ER (kcell (c, i)) 0 ∅ 0) ∗ bigSep Finset.univ (fun i : Fin 25 => reached ER (kcell (c, i)) 0) ∗ ownToks c)

theorem open_cells (c : Dev nD) :
    iprop(Pipeline.ownSems0 (Ix := Unit) (Name := ℕ) (U := UU) (Lvl := ℕ) (Val := Elt F) (τ := τ) osem c ∗ unscopedSems0 c ∗ G m c)
      ⊢ |={Set.univ}=> opened m c := by
  have hinv : iprop(bigSep Finset.univ (fun i : Fin 25 => semVal (kcell (c, i)) 0) ∗ bigSep Finset.univ (fun i : Fin 25 => roundState ER (Rd m) (kcell (c, i)) 0))
      ⊢ (|={Set.univ}=> bigSep Finset.univ (fun i : Fin 25 => iprop(∃ κ : ℕ, cellInv ER (Rd m) κ (kcell (c, i)))) : sProp 𝕄) := by
    rw [← bigSep_sep']
    exact (bigSep_mono fun i _ => (Rounds.body_intro ER (Rd m) (kcell (c, i))).trans inv_alloc).trans (bigSep_fupd _ _)
  unfold G opened
  iintro ⟨Ho, Hu, Hs, Ha, Hr, Ht⟩
  ihave Hv := (sems_kind (F := F) c) $$ [Ho Hu]
  · isplitl [Ho]; · iexact Ho
    iexact Hu
  imod hinv $$ [Hv Hs] with HI
  · isplitl [Hv]; · iexact Hv
    iexact Hs
  imodintro
  isplitl [HI]; · iexact HI
  isplitl [Ha]; · iexact Ha
  isplitl [Hr]; · iexact Hr
  iexact Ht

/-- All devices' cells together, and the duties where they are paid from. -/
theorem gather : bigSep Finset.univ (fun c : Dev nD => opened m c) ⊢ bigSep Finset.univ (G' m) := by
  have deal : ∀ K : Dev nD × Fin 25 → ℕ, ∀ c : Dev nD, iprop(shared m K ∗ (bigSep Finset.univ (fun i : Fin 25 => atPos ER (kcell (c, i)) 0 ∅ 0) ∗ payToks (F := F) c)) ⊢ G' m c := fun K c => by
    unfold G'
    iintro ⟨HR, H⟩
    iexists K
    isplitl [HR]; · iexact HR
    iexact H
  have pers : ∀ K : Dev nD × Fin 25 → ℕ, BI.Persistent (shared m K) := fun K => by unfold shared; infer_instance
  unfold opened
  simp only [bigSep_sep']
  rw [← bigSep_univ_prod (fun ck : Dev nD × Fin 25 => (iprop(∃ κ : ℕ, cellInv ER (Rd m) κ (kcell ck)) : sProp 𝕄)),
    ← bigSep_univ_prod (fun ck : Dev nD × Fin 25 => (reached ER (kcell ck) 0 : sProp 𝕄))]
  iintro ⟨HI, Ha, #HR, Ht⟩
  ihave HK := (BI.bigSep_exists_pi Finset.univ (fun (ck : Dev nD × Fin 25) (κ : ℕ) => (cellInv ER (Rd m) κ (kcell ck) : sProp 𝕄))) $$ HI
  icases HK with ⟨%K, #HI⟩
  ihave Hp := (toks_round (F := F)) $$ Ht
  have hp := pers K
  iapply (Transfers.bigSep_mono_pers (Finset.univ : Finset (Dev nD)) (shared m K) _ (G' m) (fun c _ => deal K c))
  isplitr
  · unfold shared
    rw [bigSep_sep']
    isplitr; · iexact HI
    iexact HR
  · rw [bigSep_sep']
    isplitl [Ha]; · iexact Ha
    iexact Hp

theorem deal_all : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => open_cells m c).trans (bigSep_fupd _ _)).trans (BI.fupd_mono (gather m))

end Cert.Ring
-- ==== Proof.Credits.lean ====
/-
  The credit of the launch: what the devices owe a device's cells at the start.
-/
module

public import proofs.«01_k».proof.Proof.Obligation
@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem barC_iff {a b : Dev nD} : barC a = barC b ↔ a = b := ⟨fun h => congrArg (fun g : GSem nD τ sig => g.1.1) h, fun h => h ▸ rfl⟩
theorem rcvS_injective : Function.Injective rcvS := by decide
theorem rcvC_iff {n k : Fin 12} {a b : Dev nD} : rcvC n a = rcvC k b ↔ n = k ∧ a = b :=
  ⟨fun h => ⟨rcvS_injective (SemLoc.dma.inj (congrArg Prod.snd h)), congrArg (fun g : GSem nD τ sig => g.1.1) h⟩, fun h => by rw [h.1, h.2]⟩
theorem rcv_ne_bar (n : Fin 12) (a b : Dev nD) : rcvC n a ≠ barC b := fun h => by have := congrArg Prod.snd h; cases this

theorem tally_rcv (k n : Fin 12) (a c : Dev nD) : tallyAt (rcvC k a) () N (rcvC n c) () = if n = k ∧ c = a then N else 0 := by
  rw [tallyAt_apply]
  exact if_congr ⟨fun h => rcvC_iff.mp h.1, fun h => ⟨rcvC_iff.mpr h, rfl⟩⟩ rfl rfl
theorem tally_bar (a c : Dev nD) : tallyAt (barC a) () 1 (barC c) () = if c = a then 1 else 0 := by
  rw [tallyAt_apply]
  exact if_congr ⟨fun h => barC_iff.mp h.1, fun h => ⟨barC_iff.mpr h, rfl⟩⟩ rfl rfl
theorem tally_bar_rcv (a c : Dev nD) (n : Fin 12) : tallyAt (barC a) () 1 (rcvC n c) () = 0 := by
  rw [tallyAt_apply]
  exact if_neg fun h => rcv_ne_bar _ _ _ h.1

/-- The last `j` transfers of device `d` owe the cell of arrival `n` of device `c` one transfer if `n` is among them and
    comes from `d`. -/
theorem due_rcv (d : Dev nD) (n : Fin 12) (c : Dev nD) : ∀ j : ℕ, j ≤ 12 → due d j (rcvC n c) () = if 12 ≤ n.val + j ∧ d = frm n c then N else 0
  | 0, _ => by rw [if_neg fun h => by have := n.isLt; omega]; rfl
  | j + 1, hj => by
    have e : due d (j + 1) (rcvC n c) () = due d j (rcvC n c) () + tallyAt (rcvC ⟨11 - j, by omega⟩ (tgt ⟨11 - j, by omega⟩ d)) () N (rcvC n c) () := rfl
    rw [e, due_rcv d n c j (by omega), tally_rcv]
    by_cases hn : n.val = 11 - j
    · have hn' : (⟨11 - j, by omega⟩ : Fin 12) = n := Fin.ext hn.symm
      have h0 : ¬ (12 ≤ n.val + j ∧ d = frm n c) := fun h => by omega
      rw [hn', if_neg h0, Nat.zero_add]
      refine if_congr ⟨fun h => ⟨by omega, ?_⟩, fun h => ⟨rfl, ?_⟩⟩ rfl rfl
      · rw [h.2]; exact (bwd_fwd _ _).symm
      · rw [h.2]; exact (fwd_bwd _ _).symm
    · have h0 : ¬ (n = (⟨11 - j, by omega⟩ : Fin 12) ∧ c = tgt ⟨11 - j, by omega⟩ d) := fun h => hn (congrArg Fin.val h.1)
      rw [if_neg h0, Nat.add_zero]
      exact if_congr ⟨fun h => ⟨by omega, h.2⟩, fun h => ⟨by omega, h.2⟩⟩ rfl rfl

theorem owed_rcv (d : Dev nD) (n : Fin 12) (c : Dev nD) : O₀ d (rcvC n c) () = if d = frm n c then N else 0 := by
  have e : O₀ d (rcvC n c) () = due d 12 (rcvC n c) () + tallyAt (barC (nxt d)) () 1 (rcvC n c) () + tallyAt (barC (prv d)) () 1 (rcvC n c) () := rfl
  rw [e, due_rcv d n c 12 (le_refl _), tally_bar_rcv, tally_bar_rcv, Nat.add_zero, Nat.add_zero]
  exact if_congr ⟨fun h => h.2, fun h => ⟨by omega, h⟩⟩ rfl rfl

theorem owed_bar (d c : Dev nD) : O₀ d (barC c) () = (if d = prv c then 1 else 0) + (if d = nxt c then 1 else 0) := by
  have e : O₀ d (barC c) () = due d 12 (barC c) () + tallyAt (barC (nxt d)) () 1 (barC c) () + tallyAt (barC (prv d)) () 1 (barC c) () := rfl
  have z : due d 12 (barC c) () = 0 := by
    by_contra h
    obtain ⟨n, -, h'⟩ := due_pos (le_refl 12) (Nat.pos_of_ne_zero h)
    exact rcv_ne_bar _ _ _ h'.symm
  have hn : c = nxt d ↔ d = prv c := ⟨fun h => by rw [h, prv_nxt], fun h => by rw [h, nxt_prv]⟩
  have hp : c = prv d ↔ d = nxt c := ⟨fun h => by rw [h, nxt_prv], fun h => by rw [h, prv_nxt]⟩
  rw [e, z, tally_bar, tally_bar, Nat.zero_add, if_congr hn rfl rfl, if_congr hp rfl rfl]

theorem launch_bar (c : Dev nD) : tallyOn (barC c) (launchCredit (Pipeline.owing O₀) 0 (barC c)) = (tallyAt (barC c) () 2 : CellTallies nD τ sig Unit) := by
  unfold tallyAt
  refine congrArg _ (Finsupp.ext fun u => ?_)
  cases u
  rw [Pipeline.launchCredit_owing, Finsupp.single_eq_same, Finset.sum_congr rfl fun d _ => owed_bar d c, Finset.sum_add_distrib, Finset.sum_ite_eq' Finset.univ (prv c) fun _ => 1,
    Finset.sum_ite_eq' Finset.univ (nxt c) fun _ => 1, if_pos (Finset.mem_univ _), if_pos (Finset.mem_univ _)]
theorem launch_rcv (n : Fin 12) (c : Dev nD) : tallyOn (rcvC n c) (launchCredit (Pipeline.owing O₀) 0 (rcvC n c)) = (tallyAt (rcvC n c) () N : CellTallies nD τ sig Unit) := by
  unfold tallyAt
  refine congrArg _ (Finsupp.ext fun u => ?_)
  cases u
  rw [Pipeline.launchCredit_owing, Finsupp.single_eq_same, Finset.sum_congr rfl fun d _ => owed_rcv d n c, Finset.sum_ite_eq' Finset.univ (frm n c) fun _ => N, if_pos (Finset.mem_univ _)]

/-- The cells a device is owed at. -/
def owedAt : Unit ⊕ Fin 12 → SemLoc sig
  | .inl _ => .reg barS
  | .inr n => .dma (rcvS n)
theorem owedAt_injective : Function.Injective owedAt := by decide

/-- Its launch credit holds the two units of its barrier and one transfer for every arrival. -/
theorem creds (c : Dev nD) : (Pipeline.launchCred O₀ c : sProp 𝕄)
    ⊢ iprop(cred (tallyAt (barC c) () 2) ∗ bigSep Finset.univ (fun n : Fin 12 => cred (tallyAt (rcvC n c) () N))) := by
  unfold Pipeline.launchCred
  have h := bigSep_subset (Finset.subset_univ (Finset.univ.map ⟨owedAt, owedAt_injective⟩))
    (Φ := fun sm : SemLoc sig => (cred (tallyOn ((c : Thread nD τ), sm) (launchCredit (Pipeline.owing O₀) 0 ((c : Thread nD τ), sm))) : sProp 𝕄))
  rw [bigSep_map, bigSep_univ_sum, bigSep_univ_of_subsingleton ()] at h
  rw [← launch_bar, ← bigSep_congr (s := Finset.univ) fun (n : Fin 12) _ => congrArg (fun t => (cred t : sProp 𝕄)) (launch_rcv n c)]
  exact h

end Cert.Ring
-- ==== Proof.Launch.lean ====
/-
  The run: every execution of the kernel on four devices terminates, with the operands unchanged, the result on every
  device the one the body computes, and every semaphore at zero.
-/
module

public import proofs.«01_k».proof.Proof.Deal
public import proofs.«01_k».proof.Proof.Credits
public import Idealize.ShloMosaic.Adequacy
public import Idealize.ShloMosaic.Init
public import Idealize.ShloMosaic.Lib.Pipeline.CollectiveSegs
@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## From the launch to the body and back -/

/-- A device's share of the ring and its launch credit are what its body starts from. -/
theorem to_start (c : Dev nD) : iprop(levAts L lv ∗ Pipeline.launchCred O₀ c ∗ G' m c) ⊢ start m c := by
  have hat := by_kind (F := F) (fun s => atPos ER ((c : Thread nD τ), s) 0 ∅ 0)
  have hp : (fun n : Fin 12 => iprop(atPos ER (sndC n c) 0 ∅ 0 ∗ (dutyTok ER (sndC n c) 0 false ∗ dutyTok ER (rcvC n (tgt n c)) 0 false)))
      = (fun n : Fin 12 => prepared (F := F) n c) := rfl
  have hw : (fun n : Fin 12 => iprop(cred (tallyAt (rcvC n c) () N) ∗ atPos ER (rcvC n c) 0 ∅ 0)) = (fun n : Fin 12 => awaited (F := F) n c) := rfl
  unfold G' payToks start
  rw [← hp, ← hw, hat]
  simp only [bigSep_sep']
  iintro ⟨Hl, Hc, ⟨%K, HR, ⟨HaB, HaS, HaV⟩, HtP, HtN, HtS, HtV⟩⟩
  ihave ⟨HcB, HcV⟩ := (creds (F := F) c) $$ Hc
  iexists K
  unfold recs shared meeting
  isplitl [HR Hl]
  · isplitl [HR]; · iexact HR
    iexact Hl
  isplitl [HaB HtP HtN HcB]
  · isplitl [HaB]; · iexact HaB
    isplitl [HtP]; · iexact HtP
    isplitl [HtN]; · iexact HtN
    iexact HcB
  isplitl [HaS HtS HtV]
  · isplitl [HaS]; · iexact HaS
    isplitl [HtS]; · iexact HtS
    iexact HtV
  isplitl [HcV]; · iexact HcV
  iexact HaV

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hl, Hc, -, HG⟩
  imodintro
  isplitl
  · iapply (to_start m c)
    isplitl [Hl]; · iexact Hl
    isplitl [Hc]; · iexact Hc
    iexact HG
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratches scratch
  iintro ⟨Hs, -, H⟩
  isplitl [Hs]; · iexact Hs
  iexact H

theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, ownSems0_eq, unscopedSems0_eq]
  unfold Φ₁ scratches scratch
  iintro ⟨H, Hb, Hz⟩
  isplitl [Hb]; · iexact Hb
  isplitl [Hz]; · iexact Hz
  iexact H

/-- The staging's waits are below everything a device owes. -/
theorem waits (c : Dev nD) : (levAts L lv : sProp 𝕄) ⊢ Pipeline.cellsWaits cfgs (dats m) () 0 c :=
  Pipeline.cellsWaits_intro cfgs (dats m) () 0 c fun w s t => by
    have h : ∀ sm : SemLoc sig, lv ((c : Thread nD τ), sm) () = 0 → (levAts L lv : sProp 𝕄) ⊢ MayWait (c : Thread nD τ) sm () ((dats m 0 c).owed t) := fun sm h => by
      rcases t with ⟨_ | _, ht⟩
      · exact mayWait_start c sm h
      · exact mayWait_due c sm 0 (by omega) (by rw [h]; omega)
    exact h _ (by fin_cases w <;> fin_cases s <;> rfl)

theorem share_eq (c : Dev nD) (w : Fin cfg0.W) : (dats m 0 c).share w = fullShare := by unfold Pipeline.Dat.share; split <;> rfl

/-! ## The run -/

/-- What the arrays of the windows hold at the end. -/
def final (c : Dev nD) (w : Fin cfg0.W) : Buf (Elt F) ((cfg0.win w).arr.view.loc (c : Thread nD τ)) := (dats m 0 c).arrAt w cfg0.N

def Done : PUnit × MemSt nD τ sig (Elt F) → Prop := fun r =>
  ∀ c : Dev nD, ∀ w : Fin cfg0.W, r.2.mem ((cfg0.win w).arr.view.loc (c : Thread nD τ)) = final m c w

set_option maxRecDepth 8000 in
/-- Every weakly fair execution of the kernel on the four devices, from any memory with zero counters, terminates; at the
    end the windows' arrays hold what the pipeline's data says and every counter is zero. -/
theorem run_windows : θ_run defs (onTc (τ := τ) (main (F := F))) ⟨m, fun _ => 0, ρ⟩ (fun r => Done m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := deal_all m)
    (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Ring
-- ==== Proof.Final.lean ====
/-
  The arrays at the end of the run: the operands as they were, the result what the body computed. The windows have one
  block, the whole array.
-/
module

public import proofs.«01_k».proof.Proof.Launch
public import Idealize.ShloMosaic.Lib.Pipeline.Value
@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The only block of a window is its array -/

theorem emb_x (y : S512x512.Idx) : (win0_0.blk t0_0).view.emb y = y := funext fun a => Fin.ext (by
  show win0_0.index t0_0 a * win0_0.size a + 1 * (y a).val = (y a).val
  fin_cases a
  · show 0 * 512 + 1 * (y 0).val = (y 0).val; omega
  · show 0 * 512 + 1 * (y 1).val = (y 1).val; omega)
theorem emb_y (y : S512x2048.Idx) : (win0_1.blk t0_0).view.emb y = y := funext fun a => Fin.ext (by
  show win0_1.index t0_0 a * win0_1.size a + 1 * (y a).val = (y a).val
  fin_cases a
  · show 0 * 512 + 1 * (y 0).val = (y 0).val; omega
  · show 0 * 2048 + 1 * (y 1).val = (y 1).val; omega)
theorem emb_o (y : S128x2048.Idx) : (win0_2.blk t0_0).view.emb y = y := funext fun a => Fin.ext (by
  show win0_2.index t0_0 a * win0_2.size a + 1 * (y a).val = (y a).val
  fin_cases a
  · show 0 * 128 + 1 * (y 0).val = (y 0).val; omega
  · show 0 * 2048 + 1 * (y 1).val = (y 1).val; omega)

/-- The staged operands are the arrays' contents. -/
theorem xv_eq (c : Dev nD) : xv m c = m ((c : Thread nD τ).loc main_arg0) := funext fun y => by
  show m ((c : Thread nD τ).loc main_arg0) ((win0_0.blk t0_0).view.emb y) = _
  rw [emb_x]
theorem yv_eq (c : Dev nD) : yv m c = m ((c : Thread nD τ).loc main_arg1) := funext fun y => by
  show m ((c : Thread nD τ).loc main_arg1) ((win0_1.blk t0_0).view.emb y) = _
  rw [emb_y]

/-! ## The arrays at the end -/

theorem final_x (c : Dev nD) : final m c (0 : Fin 3) = m ((c : Thread nD τ).loc main_arg0) := (dats m 0 c).arrAt_in (0 : Fin 3) rfl _
theorem final_y (c : Dev nD) : final m c (1 : Fin 3) = m ((c : Thread nD τ).loc main_arg1) := (dats m 0 c).arrAt_in (1 : Fin 3) rfl _

theorem final_o (c : Dev nD) : final m c (2 : Fin 3) = resV m c :=
  (dats m 0 c).arrAt_eq_of_cover (2 : Fin 3) (resV m c)
    (fun t _ => by
      rw [fin_N0 t]
      refine funext fun y => ?_
      show resV m c _ = resV m c ((win0_2.blk t0_0).view.emb y)
      rw [emb_o])
    (fun i => ⟨t0_0, flush0_2 _, Finset.mem_map.mpr ⟨i, Finset.mem_univ _, emb_o i⟩⟩)

/-- The run of the kernel, at any float type: the result on every device is `resV`, the operands are unchanged and every
    semaphore counter is zero again. -/
theorem run_main : θ_run defs (onTc (τ := τ) (main (F := F))) ⟨m, fun _ => 0, ρ⟩ (fun r =>
    (∀ c : Dev nD, r.2.mem ((c : Thread nD τ).loc main_v1) = resV m c ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run _ _ _).mono (fun r h => ⟨fun c => ⟨(h.1 c 2).trans (final_o m c), (h.1 c 0).trans (final_x m c), (h.1 c 1).trans (final_y m c)⟩, h.2⟩) (run_windows m ρ)

end Cert.Ring
-- ==== Proof.Reference.lean ====
/-
  The reference at the exact values: entry `(r, j)` of its result is the sum over all 2048 rows `k` of `x[k, r] · dy[k, j]`.
-/
module

public import proofs.«01_k».proof.Proof.Gen.ReferenceIdeal.Run
public import Idealize.ShloMosaic.Lib.Pointwise.Index
public import Idealize.ShloMosaic.Lib.StackMember
public import Idealize.ShloMosaic.Lib.Pipeline.Value

@[expose] public section

noncomputable section

namespace Cert.Whole

open Cert.ReferenceIdeal Cert.ReferenceIdeal.Gen
open Idealize.ShloMosaic Idealize.ShloMosaic.TcCoe Idealize.SL.Sem
open scoped BigOperators

/-- The reference's result: the product of the transposed `x` with `dy`. -/
def prod (x : FVec Ideal S2048x512 .f32) (dy : FVec Ideal S2048x2048 .f32) : FVec Ideal S512x2048 .f32 :=
  Host.dotGeneral dot_S512x2048_S2048x2048_S512x2048_1_0_0_1_n_n none (transpose S512x2048 [1, 0] x transposes_S2048x512_S512x2048_1_0) dy

/-- An entry of the reference's result. -/
theorem prod_apply (x : FVec Ideal S2048x512 .f32) (dy : FVec Ideal S2048x2048 .f32) (r : Fin 512) (j : Fin 2048) :
    prod x dy (ix2 r j) = ∑ k : Fin 2048, x (ix2 k r) * dy (ix2 k j) := by
  refine Eq.trans (StackMember.dotGeneral_plain_apply (m := 512) (n := 2048) (k := 2048) none (transpose S512x2048 [1, 0] x transposes_S2048x512_S512x2048_1_0) dy r j) ?_
  refine Finset.sum_congr rfl fun k _ => congrArg (· * dy (ix2 k j)) ?_
  exact transpose_apply [1, 0] x transposes_S2048x512_S512x2048_1_0 (ix2 r k) (ix2 k r) (by intro b; fin_cases b <;> rfl)

/-- The run of the reference: the result is `prod` of the arguments, the arguments are unchanged and every semaphore counter
    is zero (there is none). -/
theorem run_main (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_v1) = prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨h, sem_eq_zero_of_no_sems (by decide) r.2⟩) (Value.run m ρ)

end Cert.Whole
-- ==== Proof.Equation.lean ====
/-
  The two results agree: where each device holds its 512 rows of `x` and of `dy`, its result is its 128 rows of the
  reference's. The reference's sum over 2048 rows is cut into the four devices' sums over 512.
-/
module

public import proofs.«01_k».proof.Proof.Value
public import proofs.«01_k».proof.Proof.Final
public import proofs.«01_k».proof.Proof.Reference
public import Idealize.ShloMosaic.Lib.Layout
@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

open scoped BigOperators

variable (m : (ℓ : Loc nD τ sig) → Buf (Elt Ideal) ℓ)
variable (X : FVec Ideal ⟨2, ![2048, 512]⟩ .f32) (Y : FVec Ideal ⟨2, ![2048, 2048]⟩ .f32)

/-- Row `k` of device `e` in the whole arrays. -/
def wide (e : Fin 4) (k : Fin 512) : Fin 2048 := ⟨512 * e.val + k.val, by have := e.isLt; have := k.isLt; omega⟩

/-- A sum over all rows, device by device. -/
theorem sum_wide (f : Fin 2048 → EReal) : ∑ e : Fin 4, ∑ k : Fin 512, f (wide e k) = ∑ k : Fin 2048, f k := by
  rw [← Fintype.sum_prod_type' (fun e k => f (wide e k))]
  refine Fintype.sum_equiv (finProdFinEquiv (m := 4) (n := 512)) _ _ fun p => congrArg f (Fin.ext ?_)
  show 512 * p.1.val + p.2.val = p.2.val + 512 * p.1.val
  omega

/-- An element of a device's block of rows, in the whole array. -/
theorem block_x (c : Fin 4) (k r : Fin 512) :
    (Layout.block ⟨2, ![512, 512]⟩ ⟨2, ![2048, 512]⟩ 0 4 c X : FVec Ideal ⟨2, ![512, 512]⟩ .f32) (ix2 k r) = X (ix2 (wide c k) r) :=
  congrArg X (funext fun a => Fin.ext (by
    fin_cases a
    · show c.val * 512 + k.val = 512 * c.val + k.val; omega
    · rfl))
theorem block_y (c : Fin 4) (k : Fin 512) (j : Fin 2048) :
    (Layout.block ⟨2, ![512, 2048]⟩ ⟨2, ![2048, 2048]⟩ 0 4 c Y : FVec Ideal ⟨2, ![512, 2048]⟩ .f32) (ix2 k j) = Y (ix2 (wide c k) j) :=
  congrArg Y (funext fun a => Fin.ext (by
    fin_cases a
    · show c.val * 512 + k.val = 512 * c.val + k.val; omega
    · rfl))

/-- **The equation**: from blocks of `X` and `Y`, the kernel leaves on device `c` block `c` of the reference's result. -/
theorem resV_eq (hX : ∀ c : Dev nD, xv m c = Layout.block ⟨2, ![512, 512]⟩ ⟨2, ![2048, 512]⟩ 0 4 c X)
    (hY : ∀ c : Dev nD, yv m c = Layout.block ⟨2, ![512, 2048]⟩ ⟨2, ![2048, 2048]⟩ 0 4 c Y) (c : Dev nD) :
    resV m c = Layout.block ⟨2, ![128, 2048]⟩ ⟨2, ![512, 2048]⟩ 0 4 c (Cert.Whole.prod X Y) := by
  funext i
  rw [eq_ix2 i]
  have hc : c.val < 4 := c.isLt
  have hi : (i 0).val < 128 := (i 0).isLt
  have he (e : Dev nD) (r : Fin 512) (j : Fin 2048) :
      ent m e r j = ∑ k : Fin 512, (show EReal from X (ix2 (wide e k) r)) * (show EReal from Y (ix2 (wide e k) j)) := by
    unfold ent
    refine Finset.sum_congr rfl fun k _ => ?_
    rw [hX e, hY e]
    exact congrArg₂ (fun a b : EReal => a * b) (block_x X e k r) (block_y Y e k j)
  have hr : 128 * c.val + (i 0).val < 512 := by omega
  refine (resV_apply m c (i 0) (i 1) ⟨128 * c.val + (i 0).val, hr⟩ rfl).trans ?_
  refine (Finset.sum_congr rfl fun e _ => he e ⟨128 * c.val + (i 0).val, hr⟩ (i 1)).trans ?_
  refine (sum_wide fun k => (show EReal from X (ix2 k ⟨128 * c.val + (i 0).val, hr⟩)) * (show EReal from Y (ix2 k (i 1)))).trans ?_
  refine (Cert.Whole.prod_apply X Y ⟨128 * c.val + (i 0).val, hr⟩ (i 1)).symm.trans ?_
  refine congrArg (Cert.Whole.prod X Y) (funext fun a => Fin.ext ?_)
  fin_cases a
  · show 128 * c.val + (i 0).val = c.val * 128 + (i 0).val; omega
  · rfl

end Cert.Ring
-- ==== Proof.lean ====
/-
  The certificate of the ring reduce-scatter kernel. The kernel's run is proved once for every float type
  (`Cert.Ring.run_main`) and read here at the machine's words and at the extended reals: on every device the operands are
  unchanged, every semaphore counter is zero again, and the result is the device's share of the reference's product.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.SL.Sem

/-- The two prints of the kernel have the same body table. -/
theorem table_eq {F : FTy → Type} [FloatOps F] : Cert.Kernel.defs₀ (F := F) = Cert.KernelIdeal.defs₀ (F := F) := by
  unfold Cert.Kernel.defs₀ Cert.KernelIdeal.defs₀
  congr 1
  funext l a
  match l, a with
  | ⟨0, _⟩, (_, _) => rfl
  | ⟨_ + 1, h⟩, _ => exact absurd h (Nat.not_lt.2 (Nat.le_add_left _ _))
/-- And so the same programs behind every label. -/
theorem defs_eq {F : FTy → Type} [FloatOps F] : Cert.Kernel.defs (F := F) = Cert.KernelIdeal.defs (F := F) :=
  congrArg (Pipeline.defs Cert.KernelIdeal.pcfgs) table_eq

/-- The kernel on the machine's words: it runs, its operands end unchanged and every semaphore counter is zero. -/
theorem frame_kernel : Cert.quiescent_Kernel (hKernel := Cert.Kernel.Gen.facts) := by
  intro m g _
  have h := (θ_run (Cert.KernelIdeal.defs (F := Bits)) _ _).mono
    (Q' := fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) ∧ r.2.sem = fun _ => 0)
    (fun _ h => ⟨fun c => (h.1 c).2, h.2⟩) (Cert.Ring.run_main (F := Bits) m g)
  rw [defs_eq]
  exact h

/-- The same over the extended reals. -/
theorem frame_ideal : Cert.quiescent_KernelIdeal (hKernelIdeal := Cert.KernelIdeal.Gen.facts) := fun m g _ =>
  (θ_run Cert.KernelIdeal.defs _ _).mono (fun _ h => ⟨fun c => (h.1 c).2, h.2⟩) (Cert.Ring.run_main (F := Ideal) m g)

/-- The reference over the extended reals. -/
theorem frame_reference : Cert.quiescent_ReferenceIdeal (hReferenceIdeal := Cert.ReferenceIdeal.Gen.facts) := fun m g _ =>
  (θ_run Cert.ReferenceIdeal.defs _ _).mono (fun _ h => ⟨fun c => (h.1 c).2, h.2⟩) (Cert.Whole.run_main m g)

/-- Over the extended reals, from each device's rows of the reference's arguments, every device ends with its rows of the
    reference's result. -/
theorem equal : Cert.algebraic_KernelIdeal_ReferenceIdeal (hKernelIdeal := Cert.KernelIdeal.Gen.facts)
    (hReferenceIdeal := Cert.ReferenceIdeal.Gen.facts) := fun m g m' g' _ hin =>
  ⟨Cert.Whole.prod _ _,
    (θ_run Cert.KernelIdeal.defs _ _).mono
      (fun _ h c => ⟨(h.1 c).1.trans (Cert.Ring.resV_eq m _ _ (fun e => (Cert.Ring.xv_eq m e).trans (hin e).1)
        (fun e => (Cert.Ring.yv_eq m e).trans (hin e).2) c), (h.1 c).2⟩)
      (Cert.Ring.run_main (F := Ideal) m g),
    (θ_run Cert.ReferenceIdeal.defs _ _).mono (fun _ h => h.1 0) (Cert.Whole.run_main m' g')⟩

/-- The five claims. -/
theorem claim : Cert.Claim :=
  ⟨Cert.Kernel.Gen.facts, Cert.KernelIdeal.Gen.facts, Cert.ReferenceIdeal.Gen.facts,
    frame_kernel, frame_ideal, frame_reference, trivial, equal⟩

end Cert.Proof

end
